-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x8192x1024 : Shape := ⟨3, ![8, 8192, 1024]⟩
abbrev S8x8192x3840 : Shape := ⟨3, ![8, 8192, 3840]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S8x8192x3840 : S_.BroadcastsInDim S8x8192x3840 (![] : Fin 0 → Fin S8x8192x3840.rank)
  reducesTo_S8x8192x3840_S_d0_1_2 : S8x8192x3840.ReducesTo [0, 1, 2] S_

variable [Facts]

def fn {F : FTy → Type} [FloatOps F] (main_arg0 : FVec F S8x8192x1024 .bf16) (main_arg1 : FVec F S8x8192x3840 .bf16) : IVec S_ 1 :=
  let main_v0 : FVec F S8x8192x1024 .bf16 := Host.absf main_arg0
  let main_cst : FVec F S_ .bf16 := constant S_ .bf16 0x7F7F#16
  let main_v1 : FVec F S8x8192x1024 .bf16 := broadcastInDim S8x8192x1024 ![] bcast_S_S8x8192x1024 main_cst
  let main_v2 : IVec S8x8192x1024 1 := cmpf .ole main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S8x8192x3840 .bf16 := Host.absf main_arg1
  let main_cst_0 : FVec F S_ .bf16 := constant S_ .bf16 0x7F7F#16
  let main_v5 : FVec F S8x8192x3840 .bf16 := broadcastInDim S8x8192x3840 ![] bcast_S_S8x8192x3840 main_cst_0
  let main_v6 : IVec S8x8192x3840 1 := cmpf .ole main_v4 main_v5
  let main_c_1 : IVec S_ 1 := constantI S_ 1 1#1
  let main_v7 : IVec S_ 1 := (fun x v => Host.reduce IntOp.andi x v reducesTo_S8x8192x3840_S_d0_1_2 h_S_) main_v6 main_c_1
  let main_v8 : IVec S_ 1 := andi main_v3 main_v7
  main_v8
-- ==== Kernel.lean ====
abbrev S8x8192x1024 : Shape := ⟨3, ![8, 8192, 1024]⟩
abbrev S8x8192x3840 : Shape := ⟨3, ![8, 8192, 3840]⟩
abbrev S65536x1024 : Shape := ⟨2, ![65536, 1024]⟩
abbrev S65536x3840 : Shape := ⟨2, ![65536, 3840]⟩
abbrev S1024x3840 : Shape := ⟨2, ![1024, 3840]⟩
abbrev S2048x1024 : Shape := ⟨2, ![2048, 1024]⟩
abbrev S2048x3840 : Shape := ⟨2, ![2048, 3840]⟩
abbrev S512x1024 : Shape := ⟨2, ![512, 1024]⟩
abbrev S512x3840 : Shape := ⟨2, ![512, 3840]⟩
abbrev S16x1024 : Shape := ⟨2, ![16, 1024]⟩
abbrev S16x3840 : Shape := ⟨2, ![16, 3840]⟩
abbrev S512x256 : Shape := ⟨2, ![512, 256]⟩
abbrev S16x32x256 : Shape := ⟨3, ![16, 32, 256]⟩
abbrev S16x256 : Shape := ⟨2, ![16, 256]⟩
abbrev S16x1x256 : Shape := ⟨3, ![16, 1, 256]⟩

abbrev nBuf : Space → Nat
  | .hbm => 9
  | .vmem => 15
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x3840, .bf16⟩
  | .hbm, ⟨2, _⟩ => ⟨S65536x1024, .bf16⟩
  | .hbm, ⟨3, _⟩ => ⟨S65536x3840, .bf16⟩
  | .hbm, ⟨4, _⟩ => ⟨S1024x3840, .f32⟩
  | .hbm, ⟨5, _⟩ => ⟨S65536x1024, .fp8e4m3⟩
  | .hbm, ⟨6, _⟩ => ⟨S2048x1024, .f32⟩
  | .hbm, ⟨7, _⟩ => ⟨S65536x3840, .fp8e5m2⟩
  | .hbm, ⟨8, _⟩ => ⟨S2048x3840, .f32⟩
  | .local _ .vmem, ⟨0, _⟩ => ⟨S512x1024, .bf16⟩
  | .local _ .vmem, ⟨1, _⟩ => ⟨S512x1024, .bf16⟩
  | .local _ .vmem, ⟨2, _⟩ => ⟨S512x3840, .bf16⟩
  | .local _ .vmem, ⟨3, _⟩ => ⟨S512x3840, .bf16⟩
  | .local _ .vmem, ⟨4, _⟩ => ⟨S1024x3840, .f32⟩
  | .local _ .vmem, ⟨5, _⟩ => ⟨S512x1024, .fp8e4m3⟩
  | .local _ .vmem, ⟨6, _⟩ => ⟨S512x1024, .fp8e4m3⟩
  | .local _ .vmem, ⟨7, _⟩ => ⟨S16x1024, .f32⟩
  | .local _ .vmem, ⟨8, _⟩ => ⟨S16x1024, .f32⟩
  | .local _ .vmem, ⟨9, _⟩ => ⟨S512x3840, .fp8e5m2⟩
  | .local _ .vmem, ⟨10, _⟩ => ⟨S512x3840, .fp8e5m2⟩
  | .local _ .vmem, ⟨11, _⟩ => ⟨S16x3840, .f32⟩
  | .local _ .vmem, ⟨12, _⟩ => ⟨S16x3840, .f32⟩
  | .local _ .vmem, ⟨13, _⟩ => ⟨S512x1024, .bf16⟩
  | .local _ .vmem, ⟨14, _⟩ => ⟨S512x3840, .bf16⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3840 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3840 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3840 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x3840 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x8192x1024 : Shape := ⟨3, ![8, 8192, 1024]⟩
abbrev S8x8192x3840 : Shape := ⟨3, ![8, 8192, 3840]⟩
abbrev S65536x1024 : Shape := ⟨2, ![65536, 1024]⟩
abbrev S65536x3840 : Shape := ⟨2, ![65536, 3840]⟩
abbrev S1024x3840 : Shape := ⟨2, ![1024, 3840]⟩
abbrev S2048x1024 : Shape := ⟨2, ![2048, 1024]⟩
abbrev S2048x3840 : Shape := ⟨2, ![2048, 3840]⟩
abbrev S2048x32x1024 : Shape := ⟨3, ![2048, 32, 1024]⟩
abbrev S254x2048x1024 : Shape := ⟨3, ![254, 2048, 1024]⟩
abbrev S1x2048x1024 : Shape := ⟨3, ![1, 2048, 1024]⟩
abbrev S2048x1x1024 : Shape := ⟨3, ![2048, 1, 1024]⟩
abbrev S2048x32x3840 : Shape := ⟨3, ![2048, 32, 3840]⟩
abbrev S254x2048x3840 : Shape := ⟨3, ![254, 2048, 3840]⟩
abbrev S1x2048x3840 : Shape := ⟨3, ![1, 2048, 3840]⟩
abbrev S2048x1x3840 : Shape := ⟨3, ![2048, 1, 3840]⟩

abbrev nBuf : Space → Nat
  | .hbm => 9
  | .vmem => 7
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x3840, .bf16⟩
  | .hbm, ⟨2, _⟩ => ⟨S65536x1024, .bf16⟩
  | .hbm, ⟨3, _⟩ => ⟨S65536x3840, .bf16⟩
  | .hbm, ⟨4, _⟩ => ⟨S1024x3840, .f32⟩
  | .hbm, ⟨5, _⟩ => ⟨S65536x1024, .fp8e4m3⟩
  | .hbm, ⟨6, _⟩ => ⟨S2048x1024, .f32⟩
  | .hbm, ⟨7, _⟩ => ⟨S65536x3840, .fp8e5m2⟩
  | .hbm, ⟨8, _⟩ => ⟨S2048x3840, .f32⟩
  | .local _ .vmem, ⟨0, _⟩ => ⟨S65536x1024, .bf16⟩
  | .local _ .vmem, ⟨1, _⟩ => ⟨S65536x3840, .bf16⟩
  | .local _ .vmem, ⟨2, _⟩ => ⟨S1024x3840, .f32⟩
  | .local _ .vmem, ⟨3, _⟩ => ⟨S65536x1024, .fp8e4m3⟩
  | .local _ .vmem, ⟨4, _⟩ => ⟨S2048x1024, .f32⟩
  | .local _ .vmem, ⟨5, _⟩ => ⟨S65536x3840, .fp8e5m2⟩
  | .local _ .vmem, ⟨6, _⟩ => ⟨S2048x3840, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S65536x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S65536x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x3840 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S65536x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S65536x3840 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x3840 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Scale.lean ====
/-
  The mathematics of one group's scale, over the extended reals. The kernel finds the exponent field of `r` (the group's
  greatest absolute value over the format's greatest number) bit by bit and makes the scale and its reciprocal from it by
  integer arithmetic on float words; the reference takes the least `e` with `r < 2^e` and the powers `2^e`, `2^-e`. Here:
  the two agree for every `r` from zero up to `2^126`.
-/
module

public import Idealize.ShloMosaic.PureOps.Ideal
public import Idealize.ShloMosaic.PureOps.Ideal.Laws
public import Idealize.ShloMosaic.Lib.Tactic

@[expose] public section

set_option maxRecDepth 16384

noncomputable section

namespace Cert.Mx

open Idealize.ShloMosaic

/-- The greatest absolute value of a group of 32 elements. -/
def amax (g : Fin 32 → EReal) : EReal := Finset.univ.fold max ⊥ fun k => max (g k) (-(g k))

/-- The code of an element `x` under the reciprocal scale `i`: their product, clipped to the floats `lo … hi`. -/
def clip (lo hi : BitVec 32) (x i : EReal) : EReal := min (Ideal.ofBits .f32 hi) (max (Ideal.ofBits .f32 lo) (x * i))

/-! ## The kernel's scale -/

/-- One step of the kernel's search: add `c` to the word `e` where the sum's float is at most `r`. -/
def stepW (r : EReal) (c e : BitVec 32) : BitVec 32 := if Ideal.ofBits .f32 (e + c) ≤ r then e + c else e

/-- The kernel's search for the exponent field of `r`. -/
def searchW (r : EReal) : BitVec 32 :=
  stepW r 8388608#32 (stepW r 16777216#32 (stepW r 33554432#32 (stepW r 67108864#32
    (stepW r 134217728#32 (stepW r 268435456#32 (stepW r 536870912#32 (stepW r 1073741824#32 0#32)))))))

/-- The field the scale is made of: `126` where the search finds zero. -/
def fieldW (r : EReal) : BitVec 32 := if searchW r = 0#32 then 1056964608#32 else searchW r

/-- The kernel's scale. -/
def scaleW (r : EReal) : EReal := Ideal.ofBits .f32 (fieldW r + 8388608#32)

/-- The kernel's reciprocal scale. -/
def inverseW (r : EReal) : EReal := Ideal.ofBits .f32 (2122317824#32 - fieldW r)

/-! ## The reference's scale -/

/-- The exponent the reference takes: `0` for a group of zeros and below the normal numbers, else the least `e` from -125
    to 128 with `r < 2^e`. -/
def expR (a r : EReal) : EReal :=
  if a = 0 then 0 else if r < Ideal.ofBits .f32 0x00800000#32 then 0 else
    Finset.univ.fold min ⊤ fun k : Fin 254 =>
      if r < Ideal.exp2 ((((k : ℕ) : ℝ) : EReal) - ((125 : ℝ) : EReal)) then (((k : ℕ) : ℝ) : EReal) - ((125 : ℝ) : EReal)
      else ((128 : ℝ) : EReal)

/-- The reference's scale. -/
def scaleR (a r : EReal) : EReal := Ideal.exp2 (expR a r)

/-- The reference's reciprocal scale. -/
def inverseR (a r : EReal) : EReal := Ideal.exp2 (0 - expR a r)

/-! ## Words with an empty significand -/

/-- The float word with exponent field `k` and an empty significand. -/
def word (k : ℕ) : BitVec 32 := BitVec.ofNat 32 (k * 8388608)

/-- The word of field `k` as a number. -/
theorem toNat_word {k : ℕ} (h : k < 256) : (word k).toNat = k * 8388608 := by
  unfold word
  rw [BitVec.toNat_ofNat]
  have hk : k * 8388608 ≤ 255 * 8388608 := Nat.mul_le_mul_right _ (by omega)
  have h2 : 255 * 8388608 < 2 ^ 32 := by norm_num
  exact Nat.mod_eq_of_lt (lt_of_le_of_lt hk h2)

/-- Adding words adds their fields. -/
theorem word_add (a b : ℕ) : word a + word b = word (a + b) := by
  unfold word; rw [← BitVec.ofNat_add, Nat.add_mul]

/-- The float of exponent field `k`, for a normal number, is `2^(k-127)`. -/
theorem ofBits_word {k : ℕ} (h0 : 1 ≤ k) (h1 : k ≤ 254) :
    Ideal.ofBits .f32 (word k) = (((2 : ℝ) ^ ((k : ℤ) - 127) : ℝ) : EReal) := by
  have hn := toNat_word (k := k) (by omega)
  have e1 : ((word k).extractLsb' (8 + 23) 1) = 0#1 := by
    apply BitVec.eq_of_toNat_eq
    rw [BitVec.extractLsb'_toNat, hn, Nat.shiftRight_eq_div_pow]
    show _ = 0
    omega
  have e2 : ((word k).extractLsb' 23 8).toNat = k := by
    rw [BitVec.extractLsb'_toNat, hn, Nat.shiftRight_eq_div_pow]; omega
  have e3 : ((word k).extractLsb' 0 23).toNat = 0 := by
    rw [BitVec.extractLsb'_toNat, hn, Nat.shiftRight_eq_div_pow]; omega
  show Ideal.ieee 8 23 (word k) = _
  unfold Ideal.ieee
  simp only [e1, e2, e3]
  rw [if_neg (by omega), if_neg (by omega)]
  refine congrArg _ ?_
  have h2 : (2 : ℝ) ^ ((k : ℤ) - 127) = 2 ^ (23 : ℤ) * 2 ^ ((k : ℤ) - 127 - 23) := by
    rw [← zpow_add₀ (by norm_num : (2 : ℝ) ≠ 0)]; congr 1; ring
  rw [h2]
  norm_num

/-- The float of the zero field is zero. -/
theorem ofBits_word_zero : Ideal.ofBits .f32 (word 0) = 0 := by
  show Ideal.ofBits .f32 0x00000000#32 = 0
  exact Ideal.ofBits_zero_f32

/-- The float of the greatest field is infinity. -/
theorem ofBits_word_top : Ideal.ofBits .f32 (word 255) = ⊤ := by
  simp [Ideal.ofBits, Ideal.ieee, word]

/-! ## The search finds the exponent field -/

/-- Where `r` is in the binade of field `E` (`E = 0`: below all normal numbers), exactly the fields up to `E` have a float
    at most `r`. -/
theorem word_le_iff {r : ℝ} (h0 : 0 ≤ r) {E : ℕ} (hE : E ≤ 253) (hl : E = 0 ∨ (2 : ℝ) ^ ((E : ℤ) - 127) ≤ r)
    (hu : r < (2 : ℝ) ^ ((E : ℤ) - 126)) {k : ℕ} (hk : k ≤ 255) : Ideal.ofBits .f32 (word k) ≤ (r : EReal) ↔ k ≤ E := by
  rcases Nat.eq_zero_or_pos k with rfl | hk0
  · rw [ofBits_word_zero]; simp only [Nat.zero_le, iff_true]; exact_mod_cast h0
  rcases Nat.lt_or_ge 254 k with h | h
  · obtain rfl : k = 255 := by omega
    rw [ofBits_word_top]
    simp only [top_le_iff, EReal.coe_ne_top, false_iff]; omega
  rw [ofBits_word hk0 h, EReal.coe_le_coe_iff]
  constructor
  · intro hle
    by_contra hlt
    have : (2 : ℝ) ^ ((E : ℤ) - 126) ≤ (2 : ℝ) ^ ((k : ℤ) - 127) := zpow_le_zpow_right₀ (by norm_num) (by omega)
    linarith
  · intro hle
    rcases hl with rfl | hl
    · omega
    · exact le_trans (zpow_le_zpow_right₀ (by norm_num) (by omega)) hl

/-- A step of the search, as a step on the fields. -/
theorem stepW_word {r : EReal} {E : ℕ} (h : ∀ k ≤ 255, Ideal.ofBits .f32 (word k) ≤ r ↔ k ≤ E) (c n : ℕ) (hc : n + c ≤ 255) :
    stepW r (word c) (word n) = word (if n + c ≤ E then n + c else n) := by
  unfold stepW
  rw [word_add]
  by_cases hle : n + c ≤ E
  · rw [if_pos hle, if_pos ((h _ hc).mpr hle)]
  · rw [if_neg hle, if_neg (fun q => hle ((h _ hc).mp q))]

/-- The search finds the field `E`. -/
theorem searchW_word {r : EReal} {E : ℕ} (hE : E ≤ 255) (h : ∀ k ≤ 255, Ideal.ofBits .f32 (word k) ≤ r ↔ k ≤ E) :
    searchW r = word E := by
  have step : ∀ c n m : ℕ, n + c ≤ 255 → (m = if n + c ≤ E then n + c else n) → stepW r (word c) (word n) = word m :=
    fun c n m hc hm => by rw [hm]; exact stepW_word h c n hc
  obtain ⟨n1, h1⟩ : ∃ n, n = if 0 + 128 ≤ E then 0 + 128 else 0 := ⟨_, rfl⟩
  obtain ⟨n2, h2⟩ : ∃ n, n = if n1 + 64 ≤ E then n1 + 64 else n1 := ⟨_, rfl⟩
  obtain ⟨n3, h3⟩ : ∃ n, n = if n2 + 32 ≤ E then n2 + 32 else n2 := ⟨_, rfl⟩
  obtain ⟨n4, h4⟩ : ∃ n, n = if n3 + 16 ≤ E then n3 + 16 else n3 := ⟨_, rfl⟩
  obtain ⟨n5, h5⟩ : ∃ n, n = if n4 + 8 ≤ E then n4 + 8 else n4 := ⟨_, rfl⟩
  obtain ⟨n6, h6⟩ : ∃ n, n = if n5 + 4 ≤ E then n5 + 4 else n5 := ⟨_, rfl⟩
  obtain ⟨n7, h7⟩ : ∃ n, n = if n6 + 2 ≤ E then n6 + 2 else n6 := ⟨_, rfl⟩
  obtain ⟨n8, h8⟩ : ∃ n, n = if n7 + 1 ≤ E then n7 + 1 else n7 := ⟨_, rfl⟩
  have b1 : n1 ≤ 128 ∧ n1 ≤ E ∧ E < n1 + 128 := by split at h1 <;> omega
  have b2 : n2 ≤ 192 ∧ n2 ≤ E ∧ E < n2 + 64 := by split at h2 <;> omega
  have b3 : n3 ≤ 224 ∧ n3 ≤ E ∧ E < n3 + 32 := by split at h3 <;> omega
  have b4 : n4 ≤ 240 ∧ n4 ≤ E ∧ E < n4 + 16 := by split at h4 <;> omega
  have b5 : n5 ≤ 248 ∧ n5 ≤ E ∧ E < n5 + 8 := by split at h5 <;> omega
  have b6 : n6 ≤ 252 ∧ n6 ≤ E ∧ E < n6 + 4 := by split at h6 <;> omega
  have b7 : n7 ≤ 254 ∧ n7 ≤ E ∧ E < n7 + 2 := by split at h7 <;> omega
  have b8 : n8 = E := by split at h8 <;> omega
  unfold searchW
  show stepW r (word 1) (stepW r (word 2) (stepW r (word 4) (stepW r (word 8) (stepW r (word 16) (stepW r (word 32)
    (stepW r (word 64) (stepW r (word 128) (word 0)))))))) = word E
  rw [step 128 0 n1 (by omega) h1, step 64 n1 n2 (by omega) h2, step 32 n2 n3 (by omega) h3, step 16 n3 n4 (by omega) h4,
    step 8 n4 n5 (by omega) h5, step 4 n5 n6 (by omega) h6, step 2 n6 n7 (by omega) h7, step 1 n7 n8 (by omega) h8, b8]

/-- Every `r` from zero up to `2^126` lies in one binade. -/
theorem exists_binade {r : ℝ} (h0 : 0 ≤ r) (h1 : r < (2 : ℝ) ^ (126 : ℤ)) :
    ∃ E : ℕ, E ≤ 252 ∧ (E = 0 ∨ (2 : ℝ) ^ ((E : ℤ) - 127) ≤ r) ∧ r < (2 : ℝ) ^ ((E : ℤ) - 126) := by
  rcases lt_or_ge r ((2 : ℝ) ^ (-126 : ℤ)) with h | h
  · exact ⟨0, by omega, .inl rfl, by simpa using h⟩
  · have hr : 0 < r := lt_of_lt_of_le (by positivity) h
    obtain ⟨n, hn, hn'⟩ := exists_mem_Ico_zpow hr (by norm_num : (1 : ℝ) < 2)
    have hlo : (-126 : ℤ) < n + 1 := (zpow_lt_zpow_iff_right₀ (by norm_num : (1 : ℝ) < 2)).mp (lt_of_le_of_lt h hn')
    have hhi : n < (126 : ℤ) := (zpow_lt_zpow_iff_right₀ (by norm_num : (1 : ℝ) < 2)).mp (lt_of_le_of_lt hn h1)
    refine ⟨(n + 127).toNat, by omega, .inr ?_, ?_⟩
    · rw [Int.toNat_of_nonneg (by omega)]; simpa using hn
    · rw [Int.toNat_of_nonneg (by omega)]; rw [show n + 127 - 126 = n + 1 by ring]; exact hn'

/-! ## The two scales agree -/

/-- Two to an integer power. -/
theorem exp2_int (n : ℤ) : Ideal.exp2 (((n : ℝ) : EReal)) = (((2 : ℝ) ^ n : ℝ) : EReal) := by
  rw [Ideal.exp2_coe]
  exact congrArg _ (Real.rpow_intCast 2 n)

/-- The difference of a natural number and 125 is that of the integers. -/
theorem sub_coe (k : ℕ) : ((((k : ℕ) : ℝ) : EReal) - ((125 : ℝ) : EReal)) = ((((k : ℤ) - 125 : ℤ) : ℝ) : EReal) := by
  rw [← EReal.coe_sub]; push_cast; rfl

/-- In the binade of a normal field `E` the reference's exponent is `E - 126`. -/
theorem expR_normal {a : EReal} {r : ℝ} (ha : a = 0 → r = 0) {E : ℕ} (h1 : 1 ≤ E) (hE : E ≤ 252)
    (hl : (2 : ℝ) ^ ((E : ℤ) - 127) ≤ r) (hu : r < (2 : ℝ) ^ ((E : ℤ) - 126)) :
    expR a r = ((((E : ℤ) - 126 : ℤ) : ℝ) : EReal) := by
  have hr : 0 < r := lt_of_lt_of_le (by positivity) hl
  unfold expR
  rw [if_neg (fun h => absurd (ha h) hr.ne')]
  have hw : Ideal.ofBits .f32 0x00800000#32 = (((2 : ℝ) ^ (-126 : ℤ) : ℝ) : EReal) := by
    have := ofBits_word (k := 1) (by omega) (by omega)
    exact this
  rw [hw, if_neg (by
    rw [EReal.coe_lt_coe_iff, not_lt]; exact le_trans (zpow_le_zpow_right₀ (by norm_num) (by omega)) hl)]
  apply le_antisymm
  · rw [Finset.fold_min_le]
    refine .inr ⟨⟨E - 1, by omega⟩, Finset.mem_univ _, ?_⟩
    dsimp only
    rw [sub_coe, exp2_int, if_pos (by
      rw [EReal.coe_lt_coe_iff, show ((E - 1 : ℕ) : ℤ) - 125 = (E : ℤ) - 126 by omega]; exact hu), EReal.coe_le_coe_iff]
    exact_mod_cast (by omega : ((E - 1 : ℕ) : ℤ) - 125 ≤ (E : ℤ) - 126)
  · rw [Finset.le_fold_min]
    refine ⟨le_top, fun k _ => ?_⟩
    rw [sub_coe, exp2_int]
    split
    · next h =>
      rw [EReal.coe_lt_coe_iff] at h
      rw [EReal.coe_le_coe_iff]
      have : ((E : ℤ) - 127) < ((k : ℕ) : ℤ) - 125 :=
        (zpow_lt_zpow_iff_right₀ (by norm_num : (1 : ℝ) < 2)).mp (lt_of_le_of_lt hl h)
      exact_mod_cast (by omega : (E : ℤ) - 126 ≤ ((k : ℕ) : ℤ) - 125)
    · rw [EReal.coe_le_coe_iff]
      exact_mod_cast (by omega : (E : ℤ) - 126 ≤ 128)

/-- Below the normal numbers the reference's exponent is zero. -/
theorem expR_low {a : EReal} {r : ℝ} (hu : r < (2 : ℝ) ^ (-126 : ℤ)) : expR a r = 0 := by
  have hw : Ideal.ofBits .f32 0x00800000#32 = (((2 : ℝ) ^ (-126 : ℤ) : ℝ) : EReal) :=
    ofBits_word (k := 1) (by omega) (by omega)
  unfold expR
  rw [hw, if_pos (EReal.coe_lt_coe_iff.mpr hu), ite_self]

/-- The word of a field from 1 to 252 is not zero. -/
theorem word_ne_zero {E : ℕ} (h1 : 1 ≤ E) (hE : E ≤ 252) : word E ≠ 0#32 := fun h => by
  have := congrArg BitVec.toNat h
  rw [toNat_word (by omega)] at this
  simp at this; omega

/-- The word of the reciprocal scale has the field `253 - E`. -/
theorem word_sub {E : ℕ} (hE : E ≤ 252) : 2122317824#32 - word E = word (253 - E) := by
  rw [show (2122317824#32 : BitVec 32) = word E + word (253 - E) from by
    rw [word_add, show E + (253 - E) = 253 by omega]; rfl, BitVec.add_comm, BitVec.add_sub_cancel]

/-- THE SCALES AGREE: for `r` from zero up to `2^126`, and `r` zero where the group's greatest absolute value is. -/
theorem scaleW_eq {a r : EReal} (h0 : 0 ≤ r) (h1 : r < (((2 : ℝ) ^ (126 : ℤ) : ℝ) : EReal)) (ha : a = 0 → r = 0) :
    scaleW r = scaleR a r ∧ inverseW r = inverseR a r := by
  lift r to ℝ using ⟨ne_top_of_lt h1, fun h => by rw [h] at h0; exact absurd h0 (by simp)⟩
  have h0' : 0 ≤ r := by exact_mod_cast h0
  have h1' : r < (2 : ℝ) ^ (126 : ℤ) := by rwa [EReal.coe_lt_coe_iff] at h1
  obtain ⟨E, hE, hl, hu⟩ := exists_binade h0' h1'
  have hs : searchW (r : EReal) = word E :=
    searchW_word (by omega) fun k hk => word_le_iff h0' (by omega) hl hu hk
  rcases Nat.eq_zero_or_pos E with rfl | hp
  · have hf : fieldW (r : EReal) = word 126 := by unfold fieldW; rw [hs]; rfl
    have he : expR a (r : EReal) = 0 := expR_low (by simpa using hu)
    have hone : Ideal.ofBits .f32 (word 127) = 1 := by
      rw [ofBits_word (by omega) (by omega)]; norm_num
    have hexp : Ideal.exp2 (0 : EReal) = 1 := by
      have := exp2_int 0; simpa using this
    unfold scaleW inverseW scaleR inverseR
    rw [hf, he, word_sub (by omega), show (8388608#32 : BitVec 32) = word 1 from rfl, word_add, hone, hexp]
    refine ⟨rfl, ?_⟩
    rw [show (0 : EReal) - 0 = 0 by simp, hexp]
  · have hf : fieldW (r : EReal) = word E := by unfold fieldW; rw [hs, if_neg (word_ne_zero hp hE)]
    have he := expR_normal (a := a) (r := r) (fun h => by exact_mod_cast ha h) hp hE (hl.resolve_left (by omega)) hu
    unfold scaleW inverseW scaleR inverseR
    rw [hf, he, word_sub hE, show (8388608#32 : BitVec 32) = word 1 from rfl, word_add, ofBits_word (by omega) (by omega),
      ofBits_word (by omega) (by omega), exp2_int, show (0 : EReal) - ((((E : ℤ) - 126 : ℤ) : ℝ) : EReal)
        = (((126 - (E : ℤ) : ℤ) : ℝ) : EReal) from by
          rw [zero_sub, ← EReal.coe_neg]; refine congrArg _ ?_; push_cast; ring, exp2_int]
    constructor
    · congr 2; push_cast; ring
    · congr 2; push_cast [Nat.cast_sub (show E ≤ 253 by omega)]; ring

end Cert.Mx

end
end
-- ==== Proof.Group.lean ====
/-
  The quantised arrays, over the extended reals, for a matrix of any size whose rows come in groups of 32: the codes, the
  scales, and the codes times their scale, each a function of the group's greatest absolute value. The kernel reaches them a
  chunk of columns and a block of rows at a time, the reference at once; a part of a matrix that keeps whole groups has the
  corresponding part of these arrays (`codesOf_part`, `scalesOf_part`, `wideOf_part`).
-/
module

public import proofs.«01_k».proof.Proof.Scale
public import Idealize.ShloMosaic.Lib.Pointwise

@[expose] public section

noncomputable section

namespace Cert.Mx

open Idealize.ShloMosaic

variable {R G W R' G' W' : ℕ}

/-- Group `g` of column `l`: rows `32 g` to `32 g + 31`. -/
def group (h : R = G * 32) (v : (⟨2, ![R, W]⟩ : Shape).Idx → EReal) (g : Fin G) (l : Fin W) : Fin 32 → EReal :=
  fun s => v (ix2 ⟨g * 32 + s, by have := g.isLt; have := s.isLt; omega⟩ l)

/-- The group of a row. -/
def rowGroup (h : R = G * 32) (r : Fin R) : Fin G := ⟨r / 32, by have := r.isLt; omega⟩

/-- The codes: each element times its group's reciprocal scale, clipped; `inv` gives the reciprocal scale from the group's
    greatest absolute value. -/
def codesOf (inv : EReal → EReal) (lo hi : BitVec 32) (h : R = G * 32) (v : (⟨2, ![R, W]⟩ : Shape).Idx → EReal) :
    (⟨2, ![R, W]⟩ : Shape).Idx → EReal :=
  fun i => clip lo hi (v i) (inv (amax (group h v (rowGroup h (i 0)) (i 1))))

/-- The scales, one per group. -/
def scalesOf (sc : EReal → EReal) (h : R = G * 32) (v : (⟨2, ![R, W]⟩ : Shape).Idx → EReal) :
    (⟨2, ![G, W]⟩ : Shape).Idx → EReal :=
  fun i => sc (amax (group h v (i 0) (i 1)))

/-- The codes times their group's scale. -/
def wideOf (inv sc : EReal → EReal) (lo hi : BitVec 32) (h : R = G * 32) (v : (⟨2, ![R, W]⟩ : Shape).Idx → EReal) :
    (⟨2, ![R, W]⟩ : Shape).Idx → EReal :=
  fun i => codesOf inv lo hi h v i * sc (amax (group h v (rowGroup h (i 0)) (i 1)))

/-! ## Parts that keep whole groups -/

/-- `v'` is the part of `v` from group `p` on, at the columns `γ`. -/
structure Part (v : (⟨2, ![R, W]⟩ : Shape).Idx → EReal) (v' : (⟨2, ![R', W']⟩ : Shape).Idx → EReal) (p : ℕ)
    (γ : Fin W' → Fin W) : Prop where
  rows : ∀ r : Fin R', p * 32 + r < R
  eq : ∀ (r : Fin R') (l : Fin W'), v' (ix2 r l) = v (ix2 ⟨p * 32 + r, rows r⟩ (γ l))

variable {v : (⟨2, ![R, W]⟩ : Shape).Idx → EReal} {v' : (⟨2, ![R', W']⟩ : Shape).Idx → EReal} {p : ℕ} {γ : Fin W' → Fin W}

/-- A group of the part is a group of the matrix. -/
theorem Part.groups (P : Part v v' p γ) (h : R = G * 32) (h' : R' = G' * 32) (g' : Fin G') : p + g' < G := by
  have := P.rows ⟨g' * 32, by have := g'.isLt; omega⟩
  have : p * 32 + g' * 32 < R := this
  omega

/-- Group `g'` of the part is group `p + g'` of the matrix. -/
theorem Part.group_eq (P : Part v v' p γ) (h : R = G * 32) (h' : R' = G' * 32) (g' : Fin G') (l : Fin W') :
    group h' v' g' l = group h v ⟨p + g', P.groups h h' g'⟩ (γ l) := by
  funext s
  unfold group
  rw [P.eq]
  exact congrArg v (congrArg (fun q => ix2 q (γ l)) (Fin.ext (by dsimp only; ring)))

/-- A row's group in the part, moved by `p`, is its group in the matrix. -/
theorem Part.rowGroup_eq (P : Part v v' p γ) (h : R = G * 32) (h' : R' = G' * 32) (r : Fin R') :
    (⟨p + rowGroup h' r, P.groups h h' _⟩ : Fin G) = rowGroup h ⟨p * 32 + r, P.rows r⟩ :=
  Fin.ext (by unfold rowGroup; dsimp only; omega)

/-- The codes of the part are the part of the codes. -/
theorem codesOf_part (P : Part v v' p γ) (inv : EReal → EReal) (lo hi : BitVec 32) (h : R = G * 32) (h' : R' = G' * 32)
    (r : Fin R') (l : Fin W') :
    codesOf inv lo hi h' v' (ix2 r l) = codesOf inv lo hi h v (ix2 ⟨p * 32 + r, P.rows r⟩ (γ l)) := by
  unfold codesOf
  rw [P.eq, ix2_0, ix2_1, P.group_eq h h', P.rowGroup_eq h h']
  rfl

/-- The scales of the part are the part of the scales. -/
theorem scalesOf_part (P : Part v v' p γ) (sc : EReal → EReal) (h : R = G * 32) (h' : R' = G' * 32) (g : Fin G')
    (l : Fin W') : scalesOf sc h' v' (ix2 g l) = scalesOf sc h v (ix2 ⟨p + g, P.groups h h' g⟩ (γ l)) := by
  unfold scalesOf
  rw [ix2_0, ix2_1, P.group_eq h h']
  rfl

/-- The widened matrix of the part is the part of the widened matrix. -/
theorem wideOf_part (P : Part v v' p γ) (inv sc : EReal → EReal) (lo hi : BitVec 32) (h : R = G * 32) (h' : R' = G' * 32)
    (r : Fin R') (l : Fin W') :
    wideOf inv sc lo hi h' v' (ix2 r l) = wideOf inv sc lo hi h v (ix2 ⟨p * 32 + r, P.rows r⟩ (γ l)) := by
  unfold wideOf
  rw [codesOf_part P inv lo hi h h', ix2_0, ix2_1, P.group_eq h h', P.rowGroup_eq h h']
  rfl

end Cert.Mx

end
end
-- ==== Proof.Chunk.lean ====
/-
  What the kernel does with one chunk of 256 columns (16 groups of 32 rows), named once. The printed body repeats these
  operations for four chunks of `x` and fifteen chunks of `dy`; the definitions here are those operations with the format's
  constants as parameters, and the lemmas read them at one element over the extended reals.
-/
module

public import proofs.«01_k».proof.Proof.Gen.KernelIdeal.Frame
public import proofs.«01_k».proof.Proof.Group
public import Idealize.ShloMosaic.Lib.Tactic
public import Idealize.ShloMosaic.Lib.Pointwise

@[expose] public section

set_option maxRecDepth 16384

noncomputable section

namespace Cert.KernelIdeal.Chunk

open Cert.KernelIdeal Cert.KernelIdeal.Gen Idealize.ShloMosaic Idealize.ShloMosaic.TcCoe

variable {F : FTy → Type} [FloatOps F]

/-- The chunk as 16 groups of 32 rows. -/
def groups (v : Vec F S512x256 .bf16) : FVec F S16x32x256 .bf16 :=
  shapeCast S16x32x256 (shapeCast S512x256 v shapeCasts_S512x256_S512x256) shapeCasts_S512x256_S16x32x256

/-- Each group's greatest absolute value, times the constant `κ` (one over the format's greatest number). -/
def ratio (κ : BitVec 32) (v : Vec F S512x256 .bf16) : FVec F S16x256 .f32 :=
  mulf (extf .f32 (multiReduction .maximumf [1] S16x256 (absf (groups v)) 0xFF80#16 reduces_S16x32x256_S16x256 (.inr rfl) rfl)
    bitsLt_bf16_f32) (broadcast S16x256 (Scalar.ofBits .f32 κ))

/-- One step of the search for the exponent field: add `c` unless the sum's float exceeds `r`. -/
def searchStep (r : FVec F S16x256 .f32) (c : BitVec 32) (e : IVec S16x256 32) : IVec S16x256 32 :=
  select (cmpf .olt r (bitcastToFloat .f32 (addi e (broadcast S16x256 c)))) e (addi e (broadcast S16x256 c))

/-- The search, from the field's highest bit to its lowest. -/
def search (r : FVec F S16x256 .f32) : IVec S16x256 32 :=
  searchStep r 8388608#32 (searchStep r 16777216#32 (searchStep r 33554432#32 (searchStep r 67108864#32
    (searchStep r 134217728#32 (searchStep r 268435456#32 (searchStep r 536870912#32
      (searchStep r 1073741824#32 (broadcast S16x256 0#32))))))))

/-- The exponent field of each group, `126` where the search finds zero. -/
def expField (r : FVec F S16x256 .f32) : IVec S16x256 32 :=
  select (cmpi .eq (search r) (broadcast S16x256 0#32)) (broadcast S16x256 1056964608#32) (search r)

/-- The scale of each group. -/
def scale (κ : BitVec 32) (v : Vec F S512x256 .bf16) : FVec F S16x256 .f32 :=
  bitcastToFloat .f32 (addi (expField (ratio κ v)) (broadcast S16x256 8388608#32))

/-- The reciprocal of the scale of each group. -/
def inverse (κ : BitVec 32) (v : Vec F S512x256 .bf16) : FVec F S16x256 .f32 :=
  bitcastToFloat .f32 (subi (broadcast S16x256 2122317824#32) (expField (ratio κ v)))

/-- A value per group, handed to the group's 32 rows. -/
def spread (w : FVec F S16x256 .f32) : FVec F S16x32x256 .bf16 :=
  broadcastTo S16x32x256 (shapeCast S16x1x256 (truncf .bf16 w bitsLt_bf16_f32) shapeCasts_S16x256_S16x1x256)
    broadcasts_S16x1x256_S16x32x256

/-- The codes of the chunk's groups: the elements times the reciprocal scale, clipped to `lo … hi`. -/
def groupCodes (ψ : FTy) (hψ : ψ.bits < FTy.bits .bf16) (κ lo hi : BitVec 32) (v : Vec F S512x256 .bf16) : FVec F S16x32x256 ψ :=
  truncf ψ (minimumf (broadcast S16x32x256 (Scalar.truncf .bf16 bitsLt_bf16_f32 (Scalar.ofBits .f32 hi : F .f32)))
    (maximumf (broadcast S16x32x256 (Scalar.truncf .bf16 bitsLt_bf16_f32 (Scalar.ofBits .f32 lo : F .f32)))
      (mulf (groups v) (spread (inverse κ v))))) hψ

/-- The chunk's codes as they are stored. -/
def codes (ψ : FTy) (hψ : ψ.bits < FTy.bits .bf16) (κ lo hi : BitVec 32) (v : Vec F S512x256 .bf16) : FVec F S512x256 ψ :=
  shapeCast S512x256 (groupCodes ψ hψ κ lo hi v) shapeCasts_S16x32x256_S512x256

/-- The codes times their scale, as the scratch the product reads keeps them. -/
def wide (ψ : FTy) (hψ : ψ.bits < FTy.bits .bf16) (κ lo hi : BitVec 32) (v : Vec F S512x256 .bf16) : FVec F S512x256 .bf16 :=
  shapeCast S512x256 (shapeCast S512x256 (mulf (extf .bf16 (groupCodes ψ hψ κ lo hi v) hψ) (spread (scale κ v)))
    shapeCasts_S16x32x256_S512x256) shapeCasts_S512x256_S512x256

/-! ## The chunk at one element, over the extended reals -/

/-- The ratio at group `g` of column `l` is the group's greatest absolute value times `κ`. -/
theorem ratio_apply (κ : BitVec 32) (v : Vec Ideal S512x256 .bf16) (g : Fin 16) (l : Fin 256) :
    ratio κ v (ix2 g l) = Mx.amax (Mx.group (R := 512) (G := 16) (W := 256) rfl v g l) * Ideal.ofBits .f32 κ := by
  pointwise [ratio, groups]
  rw [show Ideal.ofBits .bf16 0xFF80#16 = ⊥ by simp [Ideal.ofBits, Ideal.ieee]]
  rfl

/-- A step of the search at one element is the step on words. -/
theorem searchStep_apply (r : FVec Ideal S16x256 .f32) (c : BitVec 32) (e : IVec S16x256 32) (g : Fin 16) (l : Fin 256) :
    searchStep r c e (ix2 g l) = Mx.stepW (r (ix2 g l)) c (e (ix2 g l)) := by
  pointwise [searchStep]
  show (if r (ix2 g l) < Ideal.ofBits .f32 (e (ix2 g l) + c) then e (ix2 g l) else e (ix2 g l) + c) = Mx.stepW (r (ix2 g l)) c (e (ix2 g l))
  unfold Mx.stepW
  by_cases h : r (ix2 g l) < Ideal.ofBits .f32 (e (ix2 g l) + c)
  · rw [if_pos h, if_neg (not_le.mpr h)]
  · rw [if_neg h, if_pos (not_lt.mp h)]

/-- The search at one element is the search on words. -/
theorem search_apply (r : FVec Ideal S16x256 .f32) (g : Fin 16) (l : Fin 256) :
    search r (ix2 g l) = Mx.searchW (r (ix2 g l)) := by
  unfold search Mx.searchW
  simp only [searchStep_apply]
  rfl

/-- The exponent field at one element. -/
theorem expField_apply (r : FVec Ideal S16x256 .f32) (g : Fin 16) (l : Fin 256) :
    expField r (ix2 g l) = Mx.fieldW (r (ix2 g l)) := by
  pointwise [expField]
  rw [search_apply]
  unfold Mx.fieldW
  by_cases h : Mx.searchW (r (ix2 g l)) = 0#32
  · rw [if_pos h, h]; rfl
  · rw [if_neg h]; simp [Scalar.select, IntOp.cmpi, beq_eq_false_iff_ne.mpr h]

/-- The scale at group `g` of column `l`. -/
theorem scale_apply (κ : BitVec 32) (v : Vec Ideal S512x256 .bf16) (g : Fin 16) (l : Fin 256) :
    scale κ v (ix2 g l) = Mx.scaleW (Mx.amax (Mx.group (R := 512) (G := 16) (W := 256) rfl v g l) * Ideal.ofBits .f32 κ) := by
  pointwise [scale]
  rw [expField_apply, ratio_apply]
  rfl

/-- The reciprocal scale at group `g` of column `l`. -/
theorem inverse_apply (κ : BitVec 32) (v : Vec Ideal S512x256 .bf16) (g : Fin 16) (l : Fin 256) :
    inverse κ v (ix2 g l) = Mx.inverseW (Mx.amax (Mx.group (R := 512) (G := 16) (W := 256) rfl v g l) * Ideal.ofBits .f32 κ) := by
  pointwise [inverse]
  rw [expField_apply, ratio_apply]
  rfl

/-- A code at an element. -/
theorem codes_apply (ψ : FTy) (hψ : ψ.bits < FTy.bits .bf16) (κ lo hi : BitVec 32) (v : Vec Ideal S512x256 .bf16) (r : Fin 512)
    (l : Fin 256) :
    codes ψ hψ κ lo hi v (ix2 r l) = Mx.clip lo hi (v (ix2 r l)) (inverse κ v (ix2 ⟨r / 32, by omega⟩ l)) := by
  pointwise [codes, groupCodes, spread, groups]
  rfl

/-- A widened code at an element. -/
theorem wide_apply (ψ : FTy) (hψ : ψ.bits < FTy.bits .bf16) (κ lo hi : BitVec 32) (v : Vec Ideal S512x256 .bf16) (r : Fin 512)
    (l : Fin 256) :
    wide ψ hψ κ lo hi v (ix2 r l) = Mx.clip lo hi (v (ix2 r l)) (inverse κ v (ix2 ⟨r / 32, by omega⟩ l))
      * scale κ v (ix2 ⟨r / 32, by omega⟩ l) := by
  pointwise [wide, groupCodes, spread, groups]
  rfl

/-- The chunk's scales. -/
theorem scale_eq (κ : BitVec 32) (v : Vec Ideal S512x256 .bf16) :
    scale κ v = Mx.scalesOf (R := 512) (G := 16) (W := 256) (fun a => Mx.scaleW (a * Ideal.ofBits .f32 κ)) rfl v := by
  funext i
  obtain ⟨g, l, rfl⟩ : ∃ (g : Fin 16) (l : Fin 256), i = ix2 g l := ⟨i 0, i 1, eq_ix2 i⟩
  rw [scale_apply]
  rfl

/-- The chunk's codes. -/
theorem codes_eq (ψ : FTy) (hψ : ψ.bits < FTy.bits .bf16) (κ lo hi : BitVec 32) (v : Vec Ideal S512x256 .bf16) :
    codes ψ hψ κ lo hi v
      = Mx.codesOf (R := 512) (G := 16) (W := 256) (fun a => Mx.inverseW (a * Ideal.ofBits .f32 κ)) lo hi rfl v := by
  funext i
  obtain ⟨r, l, rfl⟩ : ∃ (r : Fin 512) (l : Fin 256), i = ix2 r l := ⟨i 0, i 1, eq_ix2 i⟩
  rw [codes_apply, inverse_apply]
  rfl

/-- The chunk's codes times their scale. -/
theorem wide_eq (ψ : FTy) (hψ : ψ.bits < FTy.bits .bf16) (κ lo hi : BitVec 32) (v : Vec Ideal S512x256 .bf16) :
    wide ψ hψ κ lo hi v
      = Mx.wideOf (R := 512) (G := 16) (W := 256) (fun a => Mx.inverseW (a * Ideal.ofBits .f32 κ))
        (fun a => Mx.scaleW (a * Ideal.ofBits .f32 κ)) lo hi rfl v := by
  funext i
  obtain ⟨r, l, rfl⟩ : ∃ (r : Fin 512) (l : Fin 256), i = ix2 r l := ⟨i 0, i 1, eq_ix2 i⟩
  rw [wide_apply, inverse_apply, scale_apply]
  rfl

end Cert.KernelIdeal.Chunk

end
end
-- ==== Proof.Block.lean ====
/-
  What one grid point leaves in its outputs and in its two scratch buffers, over the extended reals: the codes, scales and
  widened codes of its 512 rows, as arrays over all the columns; and, in the product's block, the old contents plus the
  product of the two widened blocks. The stores of an output are 256 columns each and are all the same function of the same
  columns of the input (`pieces`), so one lemma (`canon_pieces`) reads every output.
-/
module

public import proofs.«01_k».proof.Proof.Chunk
public import Idealize.ShloMosaic.Lib.Pipeline.Value
public import Idealize.ShloMosaic.Lib.Pipeline.ValueKit
public import Idealize.ShloMosaic.Lib.Pipeline.FrameBody

@[expose] public section

set_option maxRecDepth 16384

noncomputable section

namespace Cert.KernelIdeal.Block

open Cert.KernelIdeal Cert.KernelIdeal.Gen Idealize.ShloMosaic Idealize.ShloMosaic.TcCoe

variable {F : FTy → Type} [FloatOps F]

/-! ## Outputs stored 256 columns at a time -/

/-- A chunk's 256 columns from column `o` on lie in the array. -/
theorem inb (Q : ℕ) {W o : ℕ} (h : o + 256 ≤ W) :
    ∀ a, (![0, o] : Fin 2 → ℕ) a + (![Q, 256] : Fin 2 → ℕ) a ≤ (⟨2, ![Q, W]⟩ : Shape).size a := by
  intro a
  match a with
  | ⟨0, _⟩ => show 0 + Q ≤ Q; omega
  | ⟨1, _⟩ => exact h

/-- The stores of an output whose columns are computed 256 at a time, last first: chunk `k` of the block `x` goes through `f`
    to the same columns of the output. -/
def pieces {Q W : ℕ} {e : EltTy} (f : Vec F S512x256 .bf16 → Vec F ⟨2, ![Q, 256]⟩ e) (x : Vec F ⟨2, ![512, W]⟩ .bf16) :
    (n : ℕ) → n * 256 ≤ W → List (View.Piece (Elt F) ⟨2, ![Q, W]⟩ e)
  | 0, _ => []
  | n + 1, h => ⟨Rect.unit ![0, n * 256] ![Q, 256] (inb Q (by omega)),
      f (View.ld x (Rect.unit ![0, n * 256] ![512, 256] (inb 512 (by omega))))⟩ :: pieces f x n (by omega)

/-- A piece is in the list exactly when it is that of some chunk `k` below `n`. -/
theorem mem_pieces {Q W : ℕ} {e : EltTy} (f : Vec F S512x256 .bf16 → Vec F ⟨2, ![Q, 256]⟩ e) (x : Vec F ⟨2, ![512, W]⟩ .bf16) :
    ∀ (n : ℕ) (h : n * 256 ≤ W) (p : View.Piece (Elt F) ⟨2, ![Q, W]⟩ e), p ∈ pieces f x n h ↔
      ∃ (k : ℕ) (hk : k < n), p = ⟨Rect.unit ![0, k * 256] ![Q, 256] (inb Q (by omega)),
        f (View.ld x (Rect.unit ![0, k * 256] ![512, 256] (inb 512 (by omega))))⟩
  | 0, _, p => by simp [pieces]
  | n + 1, h, p => by
    rw [pieces, List.mem_cons, mem_pieces f x n]
    constructor
    · rintro (rfl | ⟨k, hk, rfl⟩)
      · exact ⟨n, by omega, rfl⟩
      · exact ⟨k, by omega, rfl⟩
    · rintro ⟨k, hk, rfl⟩
      rcases Nat.lt_or_ge k n with h' | h'
      · exact .inr ⟨k, h', rfl⟩
      · obtain rfl : k = n := by omega
        exact .inl rfl

/-- The stores cover the output. -/
theorem pieces_cover {Q W : ℕ} {e : EltTy} (f : Vec F S512x256 .bf16 → Vec F ⟨2, ![Q, 256]⟩ e) (x : Vec F ⟨2, ![512, W]⟩ .bf16)
    (n : ℕ) (h : n * 256 = W) (y : (⟨2, ![Q, W]⟩ : Shape).Idx) : ∃ p ∈ pieces f x n h.le, y ∈ p.1.set := by
  have h0 : (y 0 : ℕ) < Q := (y 0).isLt
  have h1 : (y 1 : ℕ) < W := (y 1).isLt
  refine ⟨_, (mem_pieces f x n h.le _).mpr ⟨(y 1 : ℕ) / 256, by omega, rfl⟩, ?_⟩
  rw [Rect.mem_set_unit]
  intro a
  match a with
  | ⟨0, _⟩ => show 0 ≤ (y 0 : ℕ) ∧ (y 0 : ℕ) < 0 + Q; omega
  | ⟨1, _⟩ => show (y 1 : ℕ) / 256 * 256 ≤ (y 1 : ℕ) ∧ (y 1 : ℕ) < (y 1 : ℕ) / 256 * 256 + 256; omega

/-- Where `f` of a chunk is `G` at the chunk's columns, the stores leave `G`. -/
theorem canon_pieces {Q W : ℕ} {e : EltTy} (f : Vec F S512x256 .bf16 → Vec F ⟨2, ![Q, 256]⟩ e) (x : Vec F ⟨2, ![512, W]⟩ .bf16)
    (n : ℕ) (h : n * 256 = W) (G : Vec F ⟨2, ![Q, W]⟩ e)
    (hG : ∀ (o : ℕ) (ho : o + 256 ≤ W) (r : Fin Q) (l : Fin 256),
      f (View.ld x (Rect.unit ![0, o] ![512, 256] (inb 512 ho))) (ix2 r l) = G (ix2 r ⟨o + l, by omega⟩)) :
    View.canon (pieces f x n h.le) = G := by
  funext y
  refine View.canon_apply_of_pieces G _ (fun p hp j => ?_) y (pieces_cover f x n h y)
  obtain ⟨k, hk, rfl⟩ := (mem_pieces f x n h.le p).mp hp
  obtain ⟨r, l, rfl⟩ : ∃ (r : Fin Q) (l : Fin 256), j = ix2 r l := ⟨j 0, j 1, eq_ix2 j⟩
  refine (hG (k * 256) (by omega) r l).trans (congrArg G (funext fun a => Fin.ext ?_))
  refine Eq.trans ?_ (Idealize.ShloMosaic.ValueKit.rect_emb_unit_val ![0, k * 256] ![Q, 256] (inb Q (by omega)) _ a).symm
  match a with
  | ⟨0, _⟩ => exact (Nat.zero_add _).symm
  | ⟨1, _⟩ => rfl

/-- A chunk's columns are a part of the block that keeps whole groups. -/
theorem part_ld {W : ℕ} (x : Vec Ideal ⟨2, ![512, W]⟩ .bf16) (o : ℕ) (ho : o + 256 ≤ W) :
    Mx.Part (R := 512) (W := W) (R' := 512) (W' := 256) x (View.ld x (Rect.unit ![0, o] ![512, 256] (inb 512 ho))) 0
      (fun l => ⟨o + l, by omega⟩) where
  rows r := by have := r.isLt; omega
  eq r l := View.ld_unit_apply_of x ![0, o] ![512, 256] (inb 512 ho) (ix2 r l) _ fun a => by
    match a with
    | ⟨0, _⟩ => show 0 * 32 + (r : ℕ) = 0 + (r : ℕ); omega
    | ⟨1, _⟩ => rfl

section Values

variable {W : ℕ} (κ lo hi : BitVec 32) (x : Vec Ideal ⟨2, ![512, W]⟩ .bf16) (n : ℕ) (h : n * 256 = W)

/-- The kernel's scale of a group, from the group's greatest absolute value. -/
def sc (κ : BitVec 32) (a : EReal) : EReal := Mx.scaleW (a * Ideal.ofBits .f32 κ)

/-- The kernel's reciprocal scale of a group. -/
def inv (κ : BitVec 32) (a : EReal) : EReal := Mx.inverseW (a * Ideal.ofBits .f32 κ)

/-- The chunks' e4m3 codes, stored side by side, are the codes of the whole block. -/
theorem canon_codesX (hψ : FTy.bits .fp8e4m3 < FTy.bits .bf16) :
    View.canon (pieces (F := Ideal) (Q := 512) (e := .fp8e4m3) (Chunk.codes .fp8e4m3 hψ κ lo hi) x n h.le)
      = Mx.codesOf (R := 512) (G := 16) (inv κ) lo hi rfl x :=
  canon_pieces _ x n h _ fun o ho r l => by
    rw [Chunk.codes_eq]
    refine (Mx.codesOf_part (part_ld x o ho) (inv κ) lo hi (G := 16) (G' := 16) rfl rfl r l).trans (congrArg _ ?_)
    exact congrArg (fun q => ix2 q _) (Fin.ext (by dsimp only; omega))

/-- The chunks' e5m2 codes, stored side by side, are the codes of the whole block. -/
theorem canon_codesD (hψ : FTy.bits .fp8e5m2 < FTy.bits .bf16) :
    View.canon (pieces (F := Ideal) (Q := 512) (e := .fp8e5m2) (Chunk.codes .fp8e5m2 hψ κ lo hi) x n h.le)
      = Mx.codesOf (R := 512) (G := 16) (inv κ) lo hi rfl x :=
  canon_pieces _ x n h _ fun o ho r l => by
    rw [Chunk.codes_eq]
    refine (Mx.codesOf_part (part_ld x o ho) (inv κ) lo hi (G := 16) (G' := 16) rfl rfl r l).trans (congrArg _ ?_)
    exact congrArg (fun q => ix2 q _) (Fin.ext (by dsimp only; omega))

/-- The chunks' widened codes, stored side by side, are the widened matrix of the whole block. -/
theorem canon_wide (ψ : FTy) (hψ : ψ.bits < FTy.bits .bf16) :
    View.canon (pieces (F := Ideal) (Q := 512) (e := .bf16) (Chunk.wide ψ hψ κ lo hi) x n h.le)
      = Mx.wideOf (R := 512) (G := 16) (inv κ) (sc κ) lo hi rfl x :=
  canon_pieces _ x n h _ fun o ho r l => by
    rw [Chunk.wide_eq]
    refine (Mx.wideOf_part (part_ld x o ho) (inv κ) (sc κ) lo hi (G := 16) (G' := 16) rfl rfl r l).trans (congrArg _ ?_)
    exact congrArg (fun q => ix2 q _) (Fin.ext (by dsimp only; omega))

/-- The chunks' scales, stored side by side, are the scales of the whole block. -/
theorem canon_scales :
    View.canon (pieces (F := Ideal) (Q := 16) (e := .f32) (Chunk.scale κ) x n h.le) = Mx.scalesOf (R := 512) (G := 16) (sc κ) rfl x :=
  canon_pieces _ x n h _ fun o ho r l => by
    rw [Chunk.scale_eq]
    refine (Mx.scalesOf_part (part_ld x o ho) (sc κ) (G := 16) (G' := 16) rfl rfl r l).trans (congrArg _ ?_)
    exact congrArg (fun q => ix2 q _) (Fin.ext (by dsimp only; omega))

end Values

/-! ## The stores one grid point makes, as the run found them -/

/-- The codes of a chunk of `x`. -/
abbrev codesX : Vec F S512x256 .bf16 → Vec F S512x256 .fp8e4m3 :=
  Chunk.codes .fp8e4m3 (by decide) 0x3B124925#32 0xC3E00000#32 0x43E00000#32

/-- The codes of a chunk of `dy`. -/
abbrev codesD : Vec F S512x256 .bf16 → Vec F S512x256 .fp8e5m2 :=
  Chunk.codes .fp8e5m2 (by decide) 0x37924925#32 0xC7600000#32 0x47600000#32

/-- The widened codes of a chunk of `x`. -/
abbrev wideX : Vec F S512x256 .bf16 → Vec F S512x256 .bf16 :=
  Chunk.wide .fp8e4m3 (by decide) 0x3B124925#32 0xC3E00000#32 0x43E00000#32

/-- The widened codes of a chunk of `dy`. -/
abbrev wideD : Vec F S512x256 .bf16 → Vec F S512x256 .bf16 :=
  Chunk.wide .fp8e5m2 (by decide) 0x37924925#32 0xC7600000#32 0x47600000#32

section Runs

variable (c : Dev nD) (i : grid0.Coords)
  (arg1 : Memref sig .tc .vmem S512x1024 .bf16) (harg1 : arg1.IsWhole)
  (arg2 : Memref sig .tc .vmem S512x3840 .bf16) (harg2 : arg2.IsWhole)
  (arg3 : Memref sig .tc .vmem S1024x3840 .f32) (harg3 : arg3.IsWhole)
  (arg4 : Memref sig .tc .vmem S512x1024 .fp8e4m3) (harg4 : arg4.IsWhole)
  (arg5 : Memref sig .tc .vmem S16x1024 .f32) (harg5 : arg5.IsWhole)
  (arg6 : Memref sig .tc .vmem S512x3840 .fp8e5m2) (harg6 : arg6.IsWhole)
  (arg7 : Memref sig .tc .vmem S16x3840 .f32) (harg7 : arg7.IsWhole)
  (arg8 : Memref sig .tc .vmem S512x1024 .bf16) (harg8 : arg8.IsWhole)
  (arg9 : Memref sig .tc .vmem S512x3840 .bf16) (harg9 : arg9.IsWhole)
  (x0 : Vec F S512x1024 .bf16) (x1 : Vec F S512x3840 .bf16)

/-- Case A's stores of x's codes. -/
theorem codesX_A (hc0 : cond0_0 i) :
    (kernelRun0_A c i arg1 harg1 arg2 harg2 arg3 harg3 arg4 harg4 arg5 harg5 arg6 harg6 arg7 harg7 arg8 harg8 arg9 harg9 hc0 x0 x1).2.1
      = pieces (Q := 512) (W := 1024) codesX x0 4 (by omega) := by
  unfold kernelRun0_A
  dsimp only
  sl_unfold_words
  simp only [View.readAt_eq_ld, harg1.read_unread]
  rfl

/-- Case A's stores of x's scales. -/
theorem scalesX_A (hc0 : cond0_0 i) :
    (kernelRun0_A c i arg1 harg1 arg2 harg2 arg3 harg3 arg4 harg4 arg5 harg5 arg6 harg6 arg7 harg7 arg8 harg8 arg9 harg9 hc0 x0 x1).2.2.1
      = pieces (Q := 16) (W := 1024) (Chunk.scale 0x3B124925#32) x0 4 (by omega) := by
  unfold kernelRun0_A
  dsimp only
  sl_unfold_words
  simp only [View.readAt_eq_ld, harg1.read_unread]
  rfl

/-- Case A's stores of dy's codes. -/
theorem codesD_A (hc0 : cond0_0 i) :
    (kernelRun0_A c i arg1 harg1 arg2 harg2 arg3 harg3 arg4 harg4 arg5 harg5 arg6 harg6 arg7 harg7 arg8 harg8 arg9 harg9 hc0 x0 x1).2.2.2.1
      = pieces (Q := 512) (W := 3840) codesD x1 15 (by omega) := by
  unfold kernelRun0_A
  dsimp only
  sl_unfold_words
  simp only [View.readAt_eq_ld, harg2.read_unread]
  rfl

/-- Case A's stores of dy's scales. -/
theorem scalesD_A (hc0 : cond0_0 i) :
    (kernelRun0_A c i arg1 harg1 arg2 harg2 arg3 harg3 arg4 harg4 arg5 harg5 arg6 harg6 arg7 harg7 arg8 harg8 arg9 harg9 hc0 x0 x1).2.2.2.2.1
      = pieces (Q := 16) (W := 3840) (Chunk.scale 0x37924925#32) x1 15 (by omega) := by
  unfold kernelRun0_A
  dsimp only
  sl_unfold_words
  simp only [View.readAt_eq_ld, harg2.read_unread]
  rfl

/-- Case A's stores of x's widened codes. -/
theorem wideX_A (hc0 : cond0_0 i) :
    (kernelRun0_A c i arg1 harg1 arg2 harg2 arg3 harg3 arg4 harg4 arg5 harg5 arg6 harg6 arg7 harg7 arg8 harg8 arg9 harg9 hc0 x0 x1).2.2.2.2.2.1
      = pieces (Q := 512) (W := 1024) wideX x0 4 (by omega) := by
  unfold kernelRun0_A
  dsimp only
  sl_unfold_words
  simp only [View.readAt_eq_ld, harg1.read_unread]
  rfl

/-- Case A's stores of dy's widened codes. -/
theorem wideD_A (hc0 : cond0_0 i) :
    (kernelRun0_A c i arg1 harg1 arg2 harg2 arg3 harg3 arg4 harg4 arg5 harg5 arg6 harg6 arg7 harg7 arg8 harg8 arg9 harg9 hc0 x0 x1).2.2.2.2.2.2.1
      = pieces (Q := 512) (W := 3840) wideD x1 15 (by omega) := by
  unfold kernelRun0_A
  dsimp only
  sl_unfold_words
  simp only [View.readAt_eq_ld, harg2.read_unread]
  rfl

/-- Case B's stores of x's codes. -/
theorem codesX_B (hc0 : ¬cond0_0 i) (xo2 : Vec F S1024x3840 .f32) :
    (kernelRun0_B c i arg1 harg1 arg2 harg2 arg3 harg3 arg4 harg4 arg5 harg5 arg6 harg6 arg7 harg7 arg8 harg8 arg9 harg9 hc0 x0 x1 xo2).2.1
      = pieces (Q := 512) (W := 1024) codesX x0 4 (by omega) := by
  unfold kernelRun0_B
  dsimp only
  sl_unfold_words
  simp only [View.readAt_eq_ld, harg1.read_unread]
  rfl

/-- Case B's stores of x's scales. -/
theorem scalesX_B (hc0 : ¬cond0_0 i) (xo2 : Vec F S1024x3840 .f32) :
    (kernelRun0_B c i arg1 harg1 arg2 harg2 arg3 harg3 arg4 harg4 arg5 harg5 arg6 harg6 arg7 harg7 arg8 harg8 arg9 harg9 hc0 x0 x1 xo2).2.2.1
      = pieces (Q := 16) (W := 1024) (Chunk.scale 0x3B124925#32) x0 4 (by omega) := by
  unfold kernelRun0_B
  dsimp only
  sl_unfold_words
  simp only [View.readAt_eq_ld, harg1.read_unread]
  rfl

/-- Case B's stores of dy's codes. -/
theorem codesD_B (hc0 : ¬cond0_0 i) (xo2 : Vec F S1024x3840 .f32) :
    (kernelRun0_B c i arg1 harg1 arg2 harg2 arg3 harg3 arg4 harg4 arg5 harg5 arg6 harg6 arg7 harg7 arg8 harg8 arg9 harg9 hc0 x0 x1 xo2).2.2.2.1
      = pieces (Q := 512) (W := 3840) codesD x1 15 (by omega) := by
  unfold kernelRun0_B
  dsimp only
  sl_unfold_words
  simp only [View.readAt_eq_ld, harg2.read_unread]
  rfl

/-- Case B's stores of dy's scales. -/
theorem scalesD_B (hc0 : ¬cond0_0 i) (xo2 : Vec F S1024x3840 .f32) :
    (kernelRun0_B c i arg1 harg1 arg2 harg2 arg3 harg3 arg4 harg4 arg5 harg5 arg6 harg6 arg7 harg7 arg8 harg8 arg9 harg9 hc0 x0 x1 xo2).2.2.2.2.1
      = pieces (Q := 16) (W := 3840) (Chunk.scale 0x37924925#32) x1 15 (by omega) := by
  unfold kernelRun0_B
  dsimp only
  sl_unfold_words
  simp only [View.readAt_eq_ld, harg2.read_unread]
  rfl

/-- Case B's stores of x's widened codes. -/
theorem wideX_B (hc0 : ¬cond0_0 i) (xo2 : Vec F S1024x3840 .f32) :
    (kernelRun0_B c i arg1 harg1 arg2 harg2 arg3 harg3 arg4 harg4 arg5 harg5 arg6 harg6 arg7 harg7 arg8 harg8 arg9 harg9 hc0 x0 x1 xo2).2.2.2.2.2.1
      = pieces (Q := 512) (W := 1024) wideX x0 4 (by omega) := by
  unfold kernelRun0_B
  dsimp only
  sl_unfold_words
  simp only [View.readAt_eq_ld, harg1.read_unread]
  rfl

/-- Case B's stores of dy's widened codes. -/
theorem wideD_B (hc0 : ¬cond0_0 i) (xo2 : Vec F S1024x3840 .f32) :
    (kernelRun0_B c i arg1 harg1 arg2 harg2 arg3 harg3 arg4 harg4 arg5 harg5 arg6 harg6 arg7 harg7 arg8 harg8 arg9 harg9 hc0 x0 x1 xo2).2.2.2.2.2.2.1
      = pieces (Q := 512) (W := 3840) wideD x1 15 (by omega) := by
  unfold kernelRun0_B
  dsimp only
  sl_unfold_words
  simp only [View.readAt_eq_ld, harg2.read_unread]
  rfl

end Runs

/-! ## The outputs of one grid point -/

section Outs

/-- The zero offset, as a function. -/
theorem hz : (![0, 0] : Fin 2 → Nat) = fun _ => 0 := funext fun a => by fin_cases a <;> rfl

variable (c : Dev nD) (i : grid0.Coords)
  (arg1 : Memref sig .tc .vmem S512x1024 .bf16) (harg1 : arg1.IsWhole)
  (arg2 : Memref sig .tc .vmem S512x3840 .bf16) (harg2 : arg2.IsWhole)
  (arg3 : Memref sig .tc .vmem S1024x3840 .f32) (harg3 : arg3.IsWhole)
  (arg4 : Memref sig .tc .vmem S512x1024 .fp8e4m3) (harg4 : arg4.IsWhole)
  (arg5 : Memref sig .tc .vmem S16x1024 .f32) (harg5 : arg5.IsWhole)
  (arg6 : Memref sig .tc .vmem S512x3840 .fp8e5m2) (harg6 : arg6.IsWhole)
  (arg7 : Memref sig .tc .vmem S16x3840 .f32) (harg7 : arg7.IsWhole)
  (arg8 : Memref sig .tc .vmem S512x1024 .bf16) (harg8 : arg8.IsWhole)
  (arg9 : Memref sig .tc .vmem S512x3840 .bf16) (harg9 : arg9.IsWhole)
  (x0 : Vec Ideal S512x1024 .bf16) (x1 : Vec Ideal S512x3840 .bf16)

/-- One over the greatest number of `x`'s format. -/
abbrev kX : BitVec 32 := 0x3B124925#32
/-- The lower clipping bound of `x`'s codes. -/
abbrev loX : BitVec 32 := 0xC3E00000#32
/-- The upper clipping bound of `x`'s codes. -/
abbrev hiX : BitVec 32 := 0x43E00000#32
/-- One over the greatest number of `dy`'s format. -/
abbrev kD : BitVec 32 := 0x37924925#32
/-- The lower clipping bound of `dy`'s codes. -/
abbrev loD : BitVec 32 := 0xC7600000#32
/-- The upper clipping bound of `dy`'s codes. -/
abbrev hiD : BitVec 32 := 0x47600000#32

/-- The widened codes of a block of `x`'s rows. -/
abbrev blkX (x0 : Vec Ideal S512x1024 .bf16) : Vec Ideal S512x1024 .bf16 :=
  Mx.wideOf (R := 512) (G := 16) (W := 1024) (inv kX) (sc kX) loX hiX rfl x0

/-- The widened codes of a block of `dy`'s rows. -/
abbrev blkD (x1 : Vec Ideal S512x3840 .bf16) : Vec Ideal S512x3840 .bf16 :=
  Mx.wideOf (R := 512) (G := 16) (W := 3840) (inv kD) (sc kD) loD hiD rfl x1

/-- Case A leaves x's codes of the block. -/
theorem out_A_3 (hc0 : cond0_0 i) :
    out0_A_3 c i arg1 harg1 arg2 harg2 arg3 harg3 arg4 harg4 arg5 harg5 arg6 harg6 arg7 harg7 arg8 harg8 arg9 harg9 hc0 x0 x1 = Mx.codesOf (R := 512) (G := 16) (W := 1024) (inv kX) loX hiX rfl x0 := by
  unfold out0_A_3
  rw [View.read_writes_eq_canon _ _ _ (cover0_A_3 c i arg1 harg1 arg2 harg2 arg3 harg3 arg4 harg4 arg5 harg5 arg6 harg6 arg7 harg7 arg8 harg8 arg9 harg9 hc0 x0 x1), codesX_A]
  exact canon_codesX _ _ _ _ 4 rfl _

/-- Case A leaves x's scales of the block. -/
theorem out_A_4 (hc0 : cond0_0 i) :
    out0_A_4 c i arg1 harg1 arg2 harg2 arg3 harg3 arg4 harg4 arg5 harg5 arg6 harg6 arg7 harg7 arg8 harg8 arg9 harg9 hc0 x0 x1 = Mx.scalesOf (R := 512) (G := 16) (W := 1024) (sc kX) rfl x0 := by
  unfold out0_A_4
  rw [View.read_writes_eq_canon _ _ _ (cover0_A_4 c i arg1 harg1 arg2 harg2 arg3 harg3 arg4 harg4 arg5 harg5 arg6 harg6 arg7 harg7 arg8 harg8 arg9 harg9 hc0 x0 x1), scalesX_A]
  exact canon_scales _ _ 4 rfl

/-- Case A leaves dy's codes of the block. -/
theorem out_A_5 (hc0 : cond0_0 i) :
    out0_A_5 c i arg1 harg1 arg2 harg2 arg3 harg3 arg4 harg4 arg5 harg5 arg6 harg6 arg7 harg7 arg8 harg8 arg9 harg9 hc0 x0 x1 = Mx.codesOf (R := 512) (G := 16) (W := 3840) (inv kD) loD hiD rfl x1 := by
  unfold out0_A_5
  rw [View.read_writes_eq_canon _ _ _ (cover0_A_5 c i arg1 harg1 arg2 harg2 arg3 harg3 arg4 harg4 arg5 harg5 arg6 harg6 arg7 harg7 arg8 harg8 arg9 harg9 hc0 x0 x1), codesD_A]
  exact canon_codesD _ _ _ _ 15 rfl _

/-- Case A leaves dy's scales of the block. -/
theorem out_A_6 (hc0 : cond0_0 i) :
    out0_A_6 c i arg1 harg1 arg2 harg2 arg3 harg3 arg4 harg4 arg5 harg5 arg6 harg6 arg7 harg7 arg8 harg8 arg9 harg9 hc0 x0 x1 = Mx.scalesOf (R := 512) (G := 16) (W := 3840) (sc kD) rfl x1 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1), scalesD_A]
  exact canon_scales _ _ 15 rfl

/-- Case A's product: zero and the product of the two widened blocks. -/
theorem out_A_2 (hc0 : cond0_0 i) :
    out0_A_2 c i arg1 harg1 arg2 harg2 arg3 harg3 arg4 harg4 arg5 harg5 arg6 harg6 arg7 harg7 arg8 harg8 arg9 harg9 hc0 x0 x1
      = k0_pay1 k0_pay176 (blkX x0) (blkD x1) := by
  have e8 : arg8.view.readCov (kernelRun0_A c i arg1 harg1 arg2 harg2 arg3 harg3 arg4 harg4 arg5 harg5 arg6 harg6 arg7 harg7 arg8 harg8 arg9 harg9 hc0 x0 x1).2.2.2.2.2.1
      (Rect.unit ![0, 0] S512x1024.size inb_S512x1024_S512x1024_0_0).toLoadRect = blkX x0 := by
    rw [View.readCov_eq_canon', wideX_A]
    refine Eq.trans ?_ (canon_wide kX loX hiX x0 4 rfl .fp8e4m3 (by decide))
    exact View.ld_unit_zero (S := S512x1024) hz inb_S512x1024_S512x1024_0_0 _
  have e9 : arg9.view.readCov (kernelRun0_A c i arg1 harg1 arg2 harg2 arg3 harg3 arg4 harg4 arg5 harg5 arg6 harg6 arg7 harg7 arg8 harg8 arg9 harg9 hc0 x0 x1).2.2.2.2.2.2.1
      (Rect.unit ![0, 0] S512x3840.size inb_S512x3840_S512x3840_0_0).toLoadRect = blkD x1 := by
    rw [View.readCov_eq_canon', wideD_A]
    refine Eq.trans ?_ (canon_wide kD loD hiD x1 15 rfl .fp8e5m2 (by decide))
    exact View.ld_unit_zero (S := S512x3840) hz inb_S512x3840_S512x3840_0_0 _
  have e2 : (kernelRun0_A c i arg1 harg1 arg2 harg2 arg3 harg3 arg4 harg4 arg5 harg5 arg6 harg6 arg7 harg7 arg8 harg8 arg9 harg9 hc0 x0 x1).1
      = ⟨Rect.unit ![0, 0] S1024x3840.size inb_S1024x3840_S1024x3840_0_0, k0_pay1
          (arg3.view.readCov [⟨Rect.unit ![0, 0] S1024x3840.size inb_S1024x3840_S1024x3840_0_0, k0_pay176 (F := Ideal)⟩] (Rect.unit ![0, 0] S1024x3840.size inb_S1024x3840_S1024x3840_0_0).toLoadRect)
          (arg8.view.readCov (kernelRun0_A c i arg1 harg1 arg2 harg2 arg3 harg3 arg4 harg4 arg5 harg5 arg6 harg6 arg7 harg7 arg8 harg8 arg9 harg9 hc0 x0 x1).2.2.2.2.2.1
            (Rect.unit ![0, 0] S512x1024.size inb_S512x1024_S512x1024_0_0).toLoadRect)
          (arg9.view.readCov (kernelRun0_A c i arg1 harg1 arg2 harg2 arg3 harg3 arg4 harg4 arg5 harg5 arg6 harg6 arg7 harg7 arg8 harg8 arg9 harg9 hc0 x0 x1).2.2.2.2.2.2.1
            (Rect.unit ![0, 0] S512x3840.size inb_S512x3840_S512x3840_0_0).toLoadRect)⟩ :: [⟨Rect.unit ![0, 0] S1024x3840.size inb_S1024x3840_S1024x3840_0_0, k0_pay176 (F := Ideal)⟩] := by
    rfl
  have e2' := e2.trans (congrArg₂ (fun a b => ((⟨Rect.unit ![0, 0] S1024x3840.size inb_S1024x3840_S1024x3840_0_0, k0_pay1
    (arg3.view.readCov [⟨Rect.unit ![0, 0] S1024x3840.size inb_S1024x3840_S1024x3840_0_0, k0_pay176 (F := Ideal)⟩] (Rect.unit ![0, 0] S1024x3840.size inb_S1024x3840_S1024x3840_0_0).toLoadRect) a b⟩ : View.Piece (Elt Ideal) S1024x3840 .f32) :: [⟨Rect.unit ![0, 0] S1024x3840.size inb_S1024x3840_S1024x3840_0_0, k0_pay176 (F := Ideal)⟩])) e8 e9)
  refine (View.read_writes_eq_canon _ _ _ (cover0_A_2 c i arg1 harg1 arg2 harg2 arg3 harg3 arg4 harg4 arg5 harg5 arg6 harg6 arg7 harg7 arg8 harg8 arg9 harg9 hc0 x0 x1)).trans ((congrArg View.canon e2').trans ?_)
  refine (View.canon_cons_unit_zero (S := S1024x3840) hz inb_S1024x3840_S1024x3840_0_0 _ _).trans ?_
  exact congrArg (fun z => k0_pay1 z (blkX x0) (blkD x1)) (View.readCov_unit_zero (S := S1024x3840) _ hz inb_S1024x3840_S1024x3840_0_0 _)

/-- Case B leaves x's codes of the block. -/
theorem out_B_3 (hc0 : ¬cond0_0 i) (xo2 : Vec Ideal S1024x3840 .f32) :
    out0_B_3 c i arg1 harg1 arg2 harg2 arg3 harg3 arg4 harg4 arg5 harg5 arg6 harg6 arg7 harg7 arg8 harg8 arg9 harg9 hc0 x0 x1 xo2 = Mx.codesOf (R := 512) (G := 16) (W := 1024) (inv kX) loX hiX rfl x0 := by
  unfold out0_B_3
  rw [View.read_writes_eq_canon _ _ _ (cover0_B_3 c i arg1 harg1 arg2 harg2 arg3 harg3 arg4 harg4 arg5 harg5 arg6 harg6 arg7 harg7 arg8 harg8 arg9 harg9 hc0 x0 x1 xo2), codesX_B]
  exact canon_codesX _ _ _ _ 4 rfl _

/-- Case B leaves x's scales of the block. -/
theorem out_B_4 (hc0 : ¬cond0_0 i) (xo2 : Vec Ideal S1024x3840 .f32) :
    out0_B_4 c i arg1 harg1 arg2 harg2 arg3 harg3 arg4 harg4 arg5 harg5 arg6 harg6 arg7 harg7 arg8 harg8 arg9 harg9 hc0 x0 x1 xo2 = Mx.scalesOf (R := 512) (G := 16) (W := 1024) (sc kX) rfl x0 := by
  unfold out0_B_4
  rw [View.read_writes_eq_canon _ _ _ (cover0_B_4 c i arg1 harg1 arg2 harg2 arg3 harg3 arg4 harg4 arg5 harg5 arg6 harg6 arg7 harg7 arg8 harg8 arg9 harg9 hc0 x0 x1 xo2), scalesX_B]
  exact canon_scales _ _ 4 rfl

/-- Case B leaves dy's codes of the block. -/
theorem out_B_5 (hc0 : ¬cond0_0 i) (xo2 : Vec Ideal S1024x3840 .f32) :
    out0_B_5 c i arg1 harg1 arg2 harg2 arg3 harg3 arg4 harg4 arg5 harg5 arg6 harg6 arg7 harg7 arg8 harg8 arg9 harg9 hc0 x0 x1 xo2 = Mx.codesOf (R := 512) (G := 16) (W := 3840) (inv kD) loD hiD rfl x1 := by
  unfold out0_B_5
  rw [View.read_writes_eq_canon _ _ _ (cover0_B_5 c i arg1 harg1 arg2 harg2 arg3 harg3 arg4 harg4 arg5 harg5 arg6 harg6 arg7 harg7 arg8 harg8 arg9 harg9 hc0 x0 x1 xo2), codesD_B]
  exact canon_codesD _ _ _ _ 15 rfl _

/-- Case B leaves dy's scales of the block. -/
theorem out_B_6 (hc0 : ¬cond0_0 i) (xo2 : Vec Ideal S1024x3840 .f32) :
    out0_B_6 c i arg1 harg1 arg2 harg2 arg3 harg3 arg4 harg4 arg5 harg5 arg6 harg6 arg7 harg7 arg8 harg8 arg9 harg9 hc0 x0 x1 xo2 = Mx.scalesOf (R := 512) (G := 16) (W := 3840) (sc kD) rfl x1 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 xo2), scalesD_B]
  exact canon_scales _ _ 15 rfl

/-- Case B's product: the old contents and the product of the two widened blocks. -/
theorem out_B_2 (hc0 : ¬cond0_0 i) (xo2 : Vec Ideal S1024x3840 .f32) :
    out0_B_2 c i arg1 harg1 arg2 harg2 arg3 harg3 arg4 harg4 arg5 harg5 arg6 harg6 arg7 harg7 arg8 harg8 arg9 harg9 hc0 x0 x1 xo2
      = k0_pay1 xo2 (blkX x0) (blkD x1) := by
  have e8 : arg8.view.readCov (kernelRun0_B c i arg1 harg1 arg2 harg2 arg3 harg3 arg4 harg4 arg5 harg5 arg6 harg6 arg7 harg7 arg8 harg8 arg9 harg9 hc0 x0 x1 xo2).2.2.2.2.2.1
      (Rect.unit ![0, 0] S512x1024.size inb_S512x1024_S512x1024_0_0).toLoadRect = blkX x0 := by
    rw [View.readCov_eq_canon', wideX_B]
    refine Eq.trans ?_ (canon_wide kX loX hiX x0 4 rfl .fp8e4m3 (by decide))
    exact View.ld_unit_zero (S := S512x1024) hz inb_S512x1024_S512x1024_0_0 _
  have e9 : arg9.view.readCov (kernelRun0_B c i arg1 harg1 arg2 harg2 arg3 harg3 arg4 harg4 arg5 harg5 arg6 harg6 arg7 harg7 arg8 harg8 arg9 harg9 hc0 x0 x1 xo2).2.2.2.2.2.2.1
      (Rect.unit ![0, 0] S512x3840.size inb_S512x3840_S512x3840_0_0).toLoadRect = blkD x1 := by
    rw [View.readCov_eq_canon', wideD_B]
    refine Eq.trans ?_ (canon_wide kD loD hiD x1 15 rfl .fp8e5m2 (by decide))
    exact View.ld_unit_zero (S := S512x3840) hz inb_S512x3840_S512x3840_0_0 _
  have e2 : (kernelRun0_B c i arg1 harg1 arg2 harg2 arg3 harg3 arg4 harg4 arg5 harg5 arg6 harg6 arg7 harg7 arg8 harg8 arg9 harg9 hc0 x0 x1 xo2).1
      = ⟨Rect.unit ![0, 0] S1024x3840.size inb_S1024x3840_S1024x3840_0_0, k0_pay1
          (View.readAt (Elt Ideal) arg3.view (Rect.unit ![0, 0] S1024x3840.size inb_S1024x3840_S1024x3840_0_0).toLoadRect (harg3.unread xo2))
          (arg8.view.readCov (kernelRun0_B c i arg1 harg1 arg2 harg2 arg3 harg3 arg4 harg4 arg5 harg5 arg6 harg6 arg7 harg7 arg8 harg8 arg9 harg9 hc0 x0 x1 xo2).2.2.2.2.2.1
            (Rect.unit ![0, 0] S512x1024.size inb_S512x1024_S512x1024_0_0).toLoadRect)
          (arg9.view.readCov (kernelRun0_B c i arg1 harg1 arg2 harg2 arg3 harg3 arg4 harg4 arg5 harg5 arg6 harg6 arg7 harg7 arg8 harg8 arg9 harg9 hc0 x0 x1 xo2).2.2.2.2.2.2.1
            (Rect.unit ![0, 0] S512x3840.size inb_S512x3840_S512x3840_0_0).toLoadRect)⟩ :: [] := by
    rfl
  have e2' := e2.trans (congrArg₂ (fun a b => ((⟨Rect.unit ![0, 0] S1024x3840.size inb_S1024x3840_S1024x3840_0_0, k0_pay1
    (View.readAt (Elt Ideal) arg3.view (Rect.unit ![0, 0] S1024x3840.size inb_S1024x3840_S1024x3840_0_0).toLoadRect (harg3.unread xo2)) a b⟩ : View.Piece (Elt Ideal) S1024x3840 .f32) :: [])) e8 e9)
  refine (View.read_writes_eq_canon _ _ _ (cover0_B_2 c i arg1 harg1 arg2 harg2 arg3 harg3 arg4 harg4 arg5 harg5 arg6 harg6 arg7 harg7 arg8 harg8 arg9 harg9 hc0 x0 x1 xo2)).trans ((congrArg View.canon e2').trans ?_)
  refine (View.canon_cons_unit_zero (S := S1024x3840) hz inb_S1024x3840_S1024x3840_0_0 _ _).trans ?_
  rw [View.readAt_eq_ld, harg3.read_unread, View.ld_unit_zero (S := S1024x3840) hz]

end Outs

/-- The product's step at an element: the old contents plus the sum over the 512 rows. -/
theorem step_apply (acc : Vec Ideal S1024x3840 .f32) (a : Vec Ideal S512x1024 .bf16) (b : Vec Ideal S512x3840 .bf16)
    (p : Fin 1024) (q : Fin 3840) :
    k0_pay1 acc a b (ix2 p q) = acc (ix2 p q) + ∑ k : Fin 512, a (ix2 k p) * b (ix2 k q) := by
  pointwise [k0_pay1]

/-- The block the first point's reset stores is zero. -/
theorem zero_apply (p : Fin 1024) (q : Fin 3840) : k0_pay176 (F := Ideal) (ix2 p q) = 0 := by
  show Ideal.ofBits .f32 0x00000000#32 = 0
  exact Ideal.ofBits_zero_f32

end Cert.KernelIdeal.Block

end
end
-- ==== Proof.Rows.lean ====
/-
  Blocks of whole rows of a matrix: where a block's elements lie in the matrix, and that the blocks cover it. Every window of
  the kernel and of the reference is of this kind (the block with index `(q, 0)` holds rows `B q` to `B q + B - 1`).
-/
module

public import Idealize.ShloMosaic.Lib.Pipeline.ValueKit
public import Idealize.ShloMosaic.Lib.Pointwise

@[expose] public section

noncomputable section

namespace Cert.Rows

open Idealize.ShloMosaic

variable {R B W : ℕ}

/-- Element `(r, l)` of the block with index `(q, 0)` is element `(q B + r, l)` of the matrix. -/
theorem emb_eq {emb : (⟨2, ![B, W]⟩ : Shape).Idx → (⟨2, ![R, W]⟩ : Shape).Idx} {o : Fin 2 → ℕ} {q : ℕ} (e : o = ![q, 0])
    (hemb : ∀ y a, (emb y a : ℕ) = o a * (![B, W] : Fin 2 → ℕ) a + (y a : ℕ)) (r : Fin B) (l : Fin W) (h : q * B + (r : ℕ) < R) :
    emb (ix2 r l) = ix2 ⟨q * B + (r : ℕ), h⟩ l := by
  subst e
  funext a
  refine Fin.ext ((hemb (ix2 r l) a).trans ?_)
  match a with
  | ⟨0, _⟩ => rfl
  | ⟨1, _⟩ => show 0 * W + (l : ℕ) = (l : ℕ); omega

/-- A buffer whose row `r` is row `q B + r` of `G` is the block with index `(q, 0)` of `G`. -/
theorem read_eq {α : Type} {emb : (⟨2, ![B, W]⟩ : Shape).Idx → (⟨2, ![R, W]⟩ : Shape).Idx} {o : Fin 2 → ℕ} {q : ℕ} (e : o = ![q, 0])
    (hemb : ∀ y a, (emb y a : ℕ) = o a * (![B, W] : Fin 2 → ℕ) a + (y a : ℕ)) (hq : ∀ r : Fin B, q * B + (r : ℕ) < R)
    {v : (⟨2, ![B, W]⟩ : Shape).Idx → α} {G : (⟨2, ![R, W]⟩ : Shape).Idx → α}
    (H : ∀ r l, v (ix2 r l) = G (ix2 ⟨q * B + (r : ℕ), hq r⟩ l)) (y : (⟨2, ![B, W]⟩ : Shape).Idx) : v y = G (emb y) := by
  obtain ⟨r, l, rfl⟩ : ∃ (r : Fin B) (l : Fin W), y = ix2 r l := ⟨y 0, y 1, eq_ix2 y⟩
  exact (H r l).trans (congrArg G (emb_eq e hemb r l (hq r)).symm)

/-- The block with index `(q, 0)` holds the elements of its rows. -/
theorem mem_rows {o : Fin 2 → ℕ} {q : ℕ} (e : o = ![q, 0]) (i : (⟨2, ![R, W]⟩ : Shape).Idx)
    (h0 : q * B ≤ (i 0 : ℕ)) (h1 : (i 0 : ℕ) < q * B + B) (a : Fin 2) :
    o a * (![B, W] : Fin 2 → ℕ) a ≤ (i a : ℕ) ∧ (i a : ℕ) < o a * (![B, W] : Fin 2 → ℕ) a + (![B, W] : Fin 2 → ℕ) a := by
  subst e
  match a with
  | ⟨0, _⟩ => exact ⟨h0, h1⟩
  | ⟨1, _⟩ =>
    have h : (i 1 : ℕ) < W := (i 1).isLt
    show 0 * W ≤ (i 1 : ℕ) ∧ (i 1 : ℕ) < 0 * W + W
    omega

/-- A row lies in the block of index `row / B`. -/
theorem row_bounds (hB : 0 < B) (n : ℕ) : n / B * B ≤ n ∧ n < n / B * B + B :=
  ⟨Nat.div_mul_le_self n B, by have := Nat.div_add_mod n B; have := Nat.mod_lt n hB; have := Nat.mul_comm B (n / B); omega⟩

end Cert.Rows

end
end
-- ==== Proof.Points.lean ====
/-
  The grid's 128 points, over the extended reals: point `t` reads rows `512 t` to `512 t + 511` of the two argument matrices
  and leaves their codes and scales in its output buffers.
-/
module

public import proofs.«01_k».proof.Proof.Block
public import proofs.«01_k».proof.Proof.Rows
public import proofs.«01_k».proof.Proof.Gen.KernelIdeal.Value

@[expose] public section

set_option maxRecDepth 16384

noncomputable section

namespace Cert.KernelIdeal.Points

open Cert.KernelIdeal Cert.KernelIdeal.Gen Cert.KernelIdeal.Block Idealize.ShloMosaic Idealize.ShloMosaic.TcCoe
open Idealize.ShloMosaic.Pipeline (Dat)

variable (m : (ℓ : Loc nD τ sig) → Buf (Elt Ideal) ℓ) (c : Dev nD)

/-- The matrix of `x`'s rows. -/
abbrev X : Vec Ideal S65536x1024 .bf16 := V m c (Pipeline.arrRef spec0 0)

/-- The matrix of `dy`'s rows. -/
abbrev D : Vec Ideal S65536x3840 .bf16 := V m c (Pipeline.arrRef spec0 1)

/-! ## Where the blocks lie -/

/-- Window 0 at point `t` has the block index `(t, 0)`: the 512 rows of `x` from row `512 t` on. -/
theorem index_0 : ∀ t : Fin cfg0.N, win0_0.index t = ![t.val, 0] :=
  (by decide +kernel : ∀ t : Fin grid0.N, win0_0.index t = ![t.val, 0])

/-- Window 1 at point `t` has the block index `(t, 0)`: the 512 rows of `dy` from row `512 t` on. -/
theorem index_1 : ∀ t : Fin cfg0.N, win0_1.index t = ![t.val, 0] :=
  (by decide +kernel : ∀ t : Fin grid0.N, win0_1.index t = ![t.val, 0])

/-- Window 3 at point `t` has the block index `(t, 0)`: the 512 rows of `x`'s codes from row `512 t` on. -/
theorem index_3 : ∀ t : Fin cfg0.N, win0_3.index t = ![t.val, 0] :=
  (by decide +kernel : ∀ t : Fin grid0.N, win0_3.index t = ![t.val, 0])

/-- Window 4 at point `t` has the block index `(t, 0)`: the 16 rows of `x`'s scales from row `16 t` on. -/
theorem index_4 : ∀ t : Fin cfg0.N, win0_4.index t = ![t.val, 0] :=
  (by decide +kernel : ∀ t : Fin grid0.N, win0_4.index t = ![t.val, 0])

/-- Window 5 at point `t` has the block index `(t, 0)`: the 512 rows of `dy`'s codes from row `512 t` on. -/
theorem index_5 : ∀ t : Fin cfg0.N, win0_5.index t = ![t.val, 0] :=
  (by decide +kernel : ∀ t : Fin grid0.N, win0_5.index t = ![t.val, 0])

/-- Window 6 at point `t` has the block index `(t, 0)`: the 16 rows of `dy`'s scales from row `16 t` on. -/
theorem index_6 : ∀ t : Fin cfg0.N, win0_6.index t = ![t.val, 0] :=
  (by decide +kernel : ∀ t : Fin grid0.N, win0_6.index t = ![t.val, 0])

/-- The grid has 128 points. -/
theorem lt_N (t : Fin cfg0.N) : t.val < 128 := lt_of_lt_of_eq t.isLt N_0

/-- Point `t`'s block of `x` is the part of the matrix from group `16 t` on. -/
theorem part_X (t : Fin cfg0.N) :
    Mx.Part (R := 65536) (W := 1024) (R' := 512) (W' := 1024) (X m c) (iblk m c 0 t) (16 * t.val) id where
  rows r := by have := lt_N t; have := r.isLt; omega
  eq r l := by
    have ht := lt_N t
    have hr := r.isLt
    refine (congrArg (X m c) (Rows.emb_eq (R := 65536) (B := 512) (W := 1024) (index_0 t)
      (fun _ a => ValueKit.view_emb_slice_whole_unit_val main_v0 _ _ _ _ a) r l (by omega))).trans ?_
    exact congrArg (fun k => X m c (ix2 k l)) (Fin.ext (show t.val * 512 + (r : ℕ) = 16 * t.val * 32 + (r : ℕ) by omega))

/-- Point `t`'s block of `dy` is the part of the matrix from group `16 t` on. -/
theorem part_D (t : Fin cfg0.N) :
    Mx.Part (R := 65536) (W := 3840) (R' := 512) (W' := 3840) (D m c) (iblk m c 1 t) (16 * t.val) id where
  rows r := by have := lt_N t; have := r.isLt; omega
  eq r l := by
    have ht := lt_N t
    have hr := r.isLt
    refine (congrArg (D m c) (Rows.emb_eq (R := 65536) (B := 512) (W := 3840) (index_1 t)
      (fun _ a => ValueKit.view_emb_slice_whole_unit_val main_v1 _ _ _ _ a) r l (by omega))).trans ?_
    exact congrArg (fun k => D m c (ix2 k l)) (Fin.ext (show t.val * 512 + (r : ℕ) = 16 * t.val * 32 + (r : ℕ) by omega))

/-! ## What the buffers hold -/

/-- After point `t`, output 3's buffer holds the codes of `x`'s block. -/
theorem at_3 (t : Fin cfg0.N) :
    (outsAt0 m c t.val t.isLt).2.1 = Mx.codesOf (R := 512) (G := 16) (W := 1024) (inv kX) loX hiX rfl (iblk m c 0 t) := by
  by_cases h0 : t.val % 128 = 0
  · rw [outsAt0_A m c t h0]; dsimp only; rw [out_A_3]
  · rw [outsAt0_B m c t h0]; dsimp only; rw [out_B_3]

/-- After point `t`, output 4's buffer holds the scales of `x`'s block. -/
theorem at_4 (t : Fin cfg0.N) :
    (outsAt0 m c t.val t.isLt).2.2.1 = Mx.scalesOf (R := 512) (G := 16) (W := 1024) (sc kX) rfl (iblk m c 0 t) := by
  by_cases h0 : t.val % 128 = 0
  · rw [outsAt0_A m c t h0]; dsimp only; rw [out_A_4]
  · rw [outsAt0_B m c t h0]; dsimp only; rw [out_B_4]

/-- After point `t`, output 5's buffer holds the codes of `dy`'s block. -/
theorem at_5 (t : Fin cfg0.N) :
    (outsAt0 m c t.val t.isLt).2.2.2.1 = Mx.codesOf (R := 512) (G := 16) (W := 3840) (inv kD) loD hiD rfl (iblk m c 1 t) := by
  by_cases h0 : t.val % 128 = 0
  · rw [outsAt0_A m c t h0]; dsimp only; rw [out_A_5]
  · rw [outsAt0_B m c t h0]; dsimp only; rw [out_B_5]

/-- After point `t`, output 6's buffer holds the scales of `dy`'s block. -/
theorem at_6 (t : Fin cfg0.N) :
    (outsAt0 m c t.val t.isLt).2.2.2.2 = Mx.scalesOf (R := 512) (G := 16) (W := 3840) (sc kD) rfl (iblk m c 1 t) := by
  by_cases h0 : t.val % 128 = 0
  · rw [outsAt0_A m c t h0]; dsimp only; rw [out_A_6]
  · rw [outsAt0_B m c t h0]; dsimp only; rw [out_B_6]

end Cert.KernelIdeal.Points

end
end
-- ==== Proof.Array.lean ====
/-
  What the kernel's result arrays hold after the whole grid, over the extended reals: the codes and scales of the two
  argument matrices, group by group (windows 3 to 6: point `t` writes rows `512 t` to `512 t + 511`, or their 16 groups).
-/
module

public import proofs.«01_k».proof.Proof.Points

@[expose] public section

set_option maxRecDepth 16384

noncomputable section

namespace Cert.KernelIdeal.Array

open Cert.KernelIdeal Cert.KernelIdeal.Gen Cert.KernelIdeal.Block Cert.KernelIdeal.Points Idealize.ShloMosaic Idealize.ShloMosaic.TcCoe
open Idealize.ShloMosaic.Pipeline (Dat)

variable (m : (ℓ : Loc nD τ sig) → Buf (Elt Ideal) ℓ) (c : Dev nD)

/-- A buffer of output 3 that holds rows `512 t` on of `G` writes point `t`'s block of `G`. -/
theorem cut_3 (t : Fin cfg0.N) (v : Vec Ideal S512x1024 .fp8e4m3) (G : Vec Ideal S65536x1024 .fp8e4m3)
    (H : ∀ (r : Fin 512) (l : Fin 1024) (h : t.val * 512 + (r : ℕ) < 65536), v (ix2 r l) = G (ix2 ⟨t.val * 512 + (r : ℕ), h⟩ l)) :
    (cfg0.win 3).cut (grid0.coords t) v = ((cfg0.win 3).blk t).view.read (Elt Ideal) G := by
  funext y
  exact Rows.read_eq (R := 65536) (B := 512) (W := 1024) (index_3 t) (fun _ a => ValueKit.view_emb_slice_whole_unit_val main_v2_1 _ _ _ _ a)
    (fun r => by have := lt_N t; have := r.isLt; omega) (fun r l => H r l _) y

/-- Every index of output 3 lies in the block of some point, which writes it back. -/
theorem cover_3 (i : S65536x1024.Idx) : ∃ t : Fin cfg0.N, (cfg0.win 3).flush t = true ∧ i ∈ ((cfg0.win 3).blk t).view.set := by
  have h0 : (i 0 : ℕ) < 65536 := (i 0).isLt
  obtain ⟨t, ht⟩ : ∃ t : Fin cfg0.N, t.val = (i 0 : ℕ) / 512 := ⟨⟨(i 0 : ℕ) / 512, lt_of_lt_of_eq (by omega) N_0.symm⟩, rfl⟩
  refine ⟨t, flush0_3 t, ?_⟩
  show i ∈ ((View.whole main_v2_1).slice (win0_3.rect t)).set
  rw [View.set_slice_whole, Rect.mem_set_unit]
  have hb := Rows.row_bounds (B := 512) (by omega) (i 0 : ℕ)
  exact Rows.mem_rows (R := 65536) (B := 512) (W := 1024) (index_3 t) i (ht ▸ hb.1) (ht ▸ hb.2)

/-- Output 3 ends at `G` when every point's buffer holds its rows of `G`. -/
theorem arr_3 (G : Vec Ideal S65536x1024 .fp8e4m3)
    (H : ∀ (t : Fin cfg0.N) (r : Fin 512) (l : Fin 1024) (h : t.val * 512 + (r : ℕ) < 65536),
      (outsAt0 m c t.val t.isLt).2.1 (ix2 r l) = G (ix2 ⟨t.val * 512 + (r : ℕ), h⟩ l)) :
    (dats m 0 c).arrAt 3 cfg0.N = G :=
  (dats m 0 c).arrAt_eq_of_cover 3 G (fun t _ => (Value.flushed3 m c t).trans (cut_3 t _ G (H t))) cover_3

/-- Output 3 ends holding the codes of `x`. -/
theorem final_3 : (dats m 0 c).arrAt 3 cfg0.N = Mx.codesOf (R := 65536) (G := 2048) (W := 1024) (inv kX) loX hiX rfl (X m c) := by
  refine arr_3 m c _ fun t r l h => ?_
  refine (congrFun (at_3 m c t) (ix2 r l)).trans ?_
  refine (Mx.codesOf_part (part_X m c t) (inv kX) loX hiX (G := 2048) (G' := 16) rfl rfl r l).trans ?_
  refine congrArg (Mx.codesOf (R := 65536) (G := 2048) (W := 1024) (inv kX) loX hiX rfl (X m c)) ?_
  refine congrArg (fun k => ix2 k l) (Fin.ext ?_)
  show 16 * t.val * 32 + (r : ℕ) = t.val * 512 + (r : ℕ)
  omega

/-- A buffer of output 4 that holds rows `16 t` on of `G` writes point `t`'s block of `G`. -/
theorem cut_4 (t : Fin cfg0.N) (v : Vec Ideal S16x1024 .f32) (G : Vec Ideal S2048x1024 .f32)
    (H : ∀ (r : Fin 16) (l : Fin 1024) (h : t.val * 16 + (r : ℕ) < 2048), v (ix2 r l) = G (ix2 ⟨t.val * 16 + (r : ℕ), h⟩ l)) :
    (cfg0.win 4).cut (grid0.coords t) v = ((cfg0.win 4).blk t).view.read (Elt Ideal) G := by
  funext y
  exact Rows.read_eq (R := 2048) (B := 16) (W := 1024) (index_4 t) (fun _ a => ValueKit.view_emb_slice_whole_unit_val main_v2_2 _ _ _ _ a)
    (fun r => by have := lt_N t; have := r.isLt; omega) (fun r l => H r l _) y

/-- Every index of output 4 lies in the block of some point, which writes it back. -/
theorem cover_4 (i : S2048x1024.Idx) : ∃ t : Fin cfg0.N, (cfg0.win 4).flush t = true ∧ i ∈ ((cfg0.win 4).blk t).view.set := by
  have h0 : (i 0 : ℕ) < 2048 := (i 0).isLt
  obtain ⟨t, ht⟩ : ∃ t : Fin cfg0.N, t.val = (i 0 : ℕ) / 16 := ⟨⟨(i 0 : ℕ) / 16, lt_of_lt_of_eq (by omega) N_0.symm⟩, rfl⟩
  refine ⟨t, flush0_4 t, ?_⟩
  show i ∈ ((View.whole main_v2_2).slice (win0_4.rect t)).set
  rw [View.set_slice_whole, Rect.mem_set_unit]
  have hb := Rows.row_bounds (B := 16) (by omega) (i 0 : ℕ)
  exact Rows.mem_rows (R := 2048) (B := 16) (W := 1024) (index_4 t) i (ht ▸ hb.1) (ht ▸ hb.2)

/-- Output 4 ends at `G` when every point's buffer holds its rows of `G`. -/
theorem arr_4 (G : Vec Ideal S2048x1024 .f32)
    (H : ∀ (t : Fin cfg0.N) (r : Fin 16) (l : Fin 1024) (h : t.val * 16 + (r : ℕ) < 2048),
      (outsAt0 m c t.val t.isLt).2.2.1 (ix2 r l) = G (ix2 ⟨t.val * 16 + (r : ℕ), h⟩ l)) :
    (dats m 0 c).arrAt 4 cfg0.N = G :=
  (dats m 0 c).arrAt_eq_of_cover 4 G (fun t _ => (Value.flushed4 m c t).trans (cut_4 t _ G (H t))) cover_4

/-- Output 4 ends holding the scales of `x`. -/
theorem final_4 : (dats m 0 c).arrAt 4 cfg0.N = Mx.scalesOf (R := 65536) (G := 2048) (W := 1024) (sc kX) rfl (X m c) := by
  refine arr_4 m c _ fun t r l h => ?_
  refine (congrFun (at_4 m c t) (ix2 r l)).trans ?_
  refine (Mx.scalesOf_part (part_X m c t) (sc kX) (G := 2048) (G' := 16) rfl rfl r l).trans ?_
  refine congrArg (Mx.scalesOf (R := 65536) (G := 2048) (W := 1024) (sc kX) rfl (X m c)) ?_
  refine congrArg (fun k => ix2 k l) (Fin.ext ?_)
  show 16 * t.val + (r : ℕ) = t.val * 16 + (r : ℕ)
  omega

/-- A buffer of output 5 that holds rows `512 t` on of `G` writes point `t`'s block of `G`. -/
theorem cut_5 (t : Fin cfg0.N) (v : Vec Ideal S512x3840 .fp8e5m2) (G : Vec Ideal S65536x3840 .fp8e5m2)
    (H : ∀ (r : Fin 512) (l : Fin 3840) (h : t.val * 512 + (r : ℕ) < 65536), v (ix2 r l) = G (ix2 ⟨t.val * 512 + (r : ℕ), h⟩ l)) :
    (cfg0.win 5).cut (grid0.coords t) v = ((cfg0.win 5).blk t).view.read (Elt Ideal) G := by
  funext y
  exact Rows.read_eq (R := 65536) (B := 512) (W := 3840) (index_5 t) (fun _ a => ValueKit.view_emb_slice_whole_unit_val main_v2_3 _ _ _ _ a)
    (fun r => by have := lt_N t; have := r.isLt; omega) (fun r l => H r l _) y

/-- Every index of output 5 lies in the block of some point, which writes it back. -/
theorem cover_5 (i : S65536x3840.Idx) : ∃ t : Fin cfg0.N, (cfg0.win 5).flush t = true ∧ i ∈ ((cfg0.win 5).blk t).view.set := by
  have h0 : (i 0 : ℕ) < 65536 := (i 0).isLt
  obtain ⟨t, ht⟩ : ∃ t : Fin cfg0.N, t.val = (i 0 : ℕ) / 512 := ⟨⟨(i 0 : ℕ) / 512, lt_of_lt_of_eq (by omega) N_0.symm⟩, rfl⟩
  refine ⟨t, flush0_5 t, ?_⟩
  show i ∈ ((View.whole main_v2_3).slice (win0_5.rect t)).set
  rw [View.set_slice_whole, Rect.mem_set_unit]
  have hb := Rows.row_bounds (B := 512) (by omega) (i 0 : ℕ)
  exact Rows.mem_rows (R := 65536) (B := 512) (W := 3840) (index_5 t) i (ht ▸ hb.1) (ht ▸ hb.2)

/-- Output 5 ends at `G` when every point's buffer holds its rows of `G`. -/
theorem arr_5 (G : Vec Ideal S65536x3840 .fp8e5m2)
    (H : ∀ (t : Fin cfg0.N) (r : Fin 512) (l : Fin 3840) (h : t.val * 512 + (r : ℕ) < 65536),
      (outsAt0 m c t.val t.isLt).2.2.2.1 (ix2 r l) = G (ix2 ⟨t.val * 512 + (r : ℕ), h⟩ l)) :
    (dats m 0 c).arrAt 5 cfg0.N = G :=
  (dats m 0 c).arrAt_eq_of_cover 5 G (fun t _ => (Value.flushed5 m c t).trans (cut_5 t _ G (H t))) cover_5

/-- Output 5 ends holding the codes of `dy`. -/
theorem final_5 : (dats m 0 c).arrAt 5 cfg0.N = Mx.codesOf (R := 65536) (G := 2048) (W := 3840) (inv kD) loD hiD rfl (D m c) := by
  refine arr_5 m c _ fun t r l h => ?_
  refine (congrFun (at_5 m c t) (ix2 r l)).trans ?_
  refine (Mx.codesOf_part (part_D m c t) (inv kD) loD hiD (G := 2048) (G' := 16) rfl rfl r l).trans ?_
  refine congrArg (Mx.codesOf (R := 65536) (G := 2048) (W := 3840) (inv kD) loD hiD rfl (D m c)) ?_
  refine congrArg (fun k => ix2 k l) (Fin.ext ?_)
  show 16 * t.val * 32 + (r : ℕ) = t.val * 512 + (r : ℕ)
  omega

/-- A buffer of output 6 that holds rows `16 t` on of `G` writes point `t`'s block of `G`. -/
theorem cut_6 (t : Fin cfg0.N) (v : Vec Ideal S16x3840 .f32) (G : Vec Ideal S2048x3840 .f32)
    (H : ∀ (r : Fin 16) (l : Fin 3840) (h : t.val * 16 + (r : ℕ) < 2048), v (ix2 r l) = G (ix2 ⟨t.val * 16 + (r : ℕ), h⟩ l)) :
    (cfg0.win 6).cut (grid0.coords t) v = ((cfg0.win 6).blk t).view.read (Elt Ideal) G := by
  funext y
  exact Rows.read_eq (R := 2048) (B := 16) (W := 3840) (index_6 t) (fun _ a => ValueKit.view_emb_slice_whole_unit_val main_v2_4 _ _ _ _ a)
    (fun r => by have := lt_N t; have := r.isLt; omega) (fun r l => H r l _) y

/-- Every index of output 6 lies in the block of some point, which writes it back. -/
theorem cover_6 (i : S2048x3840.Idx) : ∃ t : Fin cfg0.N, (cfg0.win 6).flush t = true ∧ i ∈ ((cfg0.win 6).blk t).view.set := by
  have h0 : (i 0 : ℕ) < 2048 := (i 0).isLt
  obtain ⟨t, ht⟩ : ∃ t : Fin cfg0.N, t.val = (i 0 : ℕ) / 16 := ⟨⟨(i 0 : ℕ) / 16, lt_of_lt_of_eq (by omega) N_0.symm⟩, rfl⟩
  refine ⟨t, flush0_6 t, ?_⟩
  show i ∈ ((View.whole main_v2_4).slice (win0_6.rect t)).set
  rw [View.set_slice_whole, Rect.mem_set_unit]
  have hb := Rows.row_bounds (B := 16) (by omega) (i 0 : ℕ)
  exact Rows.mem_rows (R := 2048) (B := 16) (W := 3840) (index_6 t) i (ht ▸ hb.1) (ht ▸ hb.2)

/-- Output 6 ends at `G` when every point's buffer holds its rows of `G`. -/
theorem arr_6 (G : Vec Ideal S2048x3840 .f32)
    (H : ∀ (t : Fin cfg0.N) (r : Fin 16) (l : Fin 3840) (h : t.val * 16 + (r : ℕ) < 2048),
      (outsAt0 m c t.val t.isLt).2.2.2.2 (ix2 r l) = G (ix2 ⟨t.val * 16 + (r : ℕ), h⟩ l)) :
    (dats m 0 c).arrAt 6 cfg0.N = G :=
  (dats m 0 c).arrAt_eq_of_cover 6 G (fun t _ => (Value.flushed6 m c t).trans (cut_6 t _ G (H t))) cover_6

/-- Output 6 ends holding the scales of `dy`. -/
theorem final_6 : (dats m 0 c).arrAt 6 cfg0.N = Mx.scalesOf (R := 65536) (G := 2048) (W := 3840) (sc kD) rfl (D m c) := by
  refine arr_6 m c _ fun t r l h => ?_
  refine (congrFun (at_6 m c t) (ix2 r l)).trans ?_
  refine (Mx.scalesOf_part (part_D m c t) (sc kD) (G := 2048) (G' := 16) rfl rfl r l).trans ?_
  refine congrArg (Mx.scalesOf (R := 65536) (G := 2048) (W := 3840) (sc kD) rfl (D m c)) ?_
  refine congrArg (fun k => ix2 k l) (Fin.ext ?_)
  show 16 * t.val + (r : ℕ) = t.val * 16 + (r : ℕ)
  omega

end Cert.KernelIdeal.Array

end
end
-- ==== Proof.Product.lean ====
/-
  The product the kernel leaves in its first result, over the extended reals: its one block stays in place while point `t`
  adds the product over rows `512 t` to `512 t + 511` of the two widened matrices (the first point starts from zero), and is
  written back after the last; so the array ends holding the sum over all 65536 rows.
-/
module

public import proofs.«01_k».proof.Proof.Points

@[expose] public section

set_option maxRecDepth 16384

noncomputable section

namespace Cert.KernelIdeal.Product

open Cert.KernelIdeal Cert.KernelIdeal.Gen Cert.KernelIdeal.Block Cert.KernelIdeal.Points Idealize.ShloMosaic Idealize.ShloMosaic.TcCoe
open Idealize.ShloMosaic.Pipeline (Dat)

/-- `f` on all naturals, zero beyond its last argument. -/
def ext {n : ℕ} (f : Fin n → EReal) (k : ℕ) : EReal := if h : k < n then f ⟨k, h⟩ else 0

/-- Below its length the extension is `f`. -/
theorem ext_lt {n : ℕ} (f : Fin n → EReal) (k : ℕ) (h : k < n) : ext f k = f ⟨k, h⟩ := dif_pos h

/-- The sum of the first `b` arguments. -/
def upTo {n : ℕ} (f : Fin n → EReal) (b : ℕ) : EReal := ∑ k ∈ Finset.range b, ext f k

/-- The sum of all arguments. -/
theorem upTo_all {n : ℕ} (f : Fin n → EReal) : upTo f n = ∑ k, f k := by
  unfold upTo
  rw [Finset.sum_range]
  exact Finset.sum_congr rfl fun k _ => ext_lt f k k.isLt

/-- The sum of no arguments is zero. -/
theorem upTo_zero {n : ℕ} (f : Fin n → EReal) : upTo f 0 = 0 := Finset.sum_range_zero _

/-- Adding the next `w` arguments. -/
theorem upTo_add {n : ℕ} (f : Fin n → EReal) (b w : ℕ) (h : ∀ k : Fin w, b + k < n) :
    upTo f (b + w) = upTo f b + ∑ k : Fin w, f ⟨b + k, h k⟩ := by
  unfold upTo
  rw [Finset.sum_range_add, Finset.sum_range (fun k => ext f (b + k))]
  exact congrArg _ (Finset.sum_congr rfl fun k _ => ext_lt f _ (h k))

/-- A buffer at the sum of its first `b` rows' products, stepped by a block, holds the sum of the first `b + 512`. -/
theorem step_upTo (A : Vec Ideal S65536x1024 .bf16) (B : Vec Ideal S65536x3840 .bf16) (a : Vec Ideal S512x1024 .bf16)
    (b : Vec Ideal S512x3840 .bf16) (acc : Vec Ideal S1024x3840 .f32) (n : ℕ) (hn : ∀ k : Fin 512, n + k < 65536)
    (ha : ∀ k p, a (ix2 k p) = A (ix2 ⟨n + k, hn k⟩ p)) (hb : ∀ k q, b (ix2 k q) = B (ix2 ⟨n + k, hn k⟩ q))
    (p : Fin 1024) (q : Fin 3840)
    (hacc : acc (ix2 p q) = upTo (fun k : Fin 65536 => A (ix2 k p) * B (ix2 k q)) n) :
    k0_pay1 acc a b (ix2 p q) = upTo (fun k : Fin 65536 => A (ix2 k p) * B (ix2 k q)) (n + 512) := by
  rw [step_apply, hacc, upTo_add _ _ _ hn]
  exact congrArg _ (Finset.sum_congr rfl fun k _ => by rw [ha, hb])

variable (m : (ℓ : Loc nD τ sig) → Buf (Elt Ideal) ℓ) (c : Dev nD)

/-- The widened `x`, as the kernel computes it. -/
def wX (v : Vec Ideal S65536x1024 .bf16) : Vec Ideal S65536x1024 .bf16 :=
  Mx.wideOf (R := 65536) (G := 2048) (W := 1024) (Block.inv kX) (sc kX) loX hiX rfl v

/-- The widened `dy`, as the kernel computes it. -/
def wD (v : Vec Ideal S65536x3840 .bf16) : Vec Ideal S65536x3840 .bf16 :=
  Mx.wideOf (R := 65536) (G := 2048) (W := 3840) (Block.inv kD) (sc kD) loD hiD rfl v

/-- Row `k` of point `t`'s widened block of `x` is row `512 t + k` of the widened `x`. -/
theorem blk_X (t : Fin cfg0.N) (n : ℕ) (e : n = t.val * 512) (hn : ∀ k : Fin 512, n + k < 65536) (k : Fin 512) (p : Fin 1024) :
    blkX (iblk m c 0 t) (ix2 k p) = wX (X m c) (ix2 ⟨n + k, hn k⟩ p) := by
  refine (Mx.wideOf_part (part_X m c t) (Block.inv kX) (sc kX) loX hiX (G := 2048) (G' := 16) rfl rfl k p).trans ?_
  refine congrArg (wX (X m c)) (congrArg (fun k => ix2 k p) (Fin.ext ?_))
  show 16 * t.val * 32 + (k : ℕ) = n + (k : ℕ)
  omega

/-- Row `k` of point `t`'s widened block of `dy` is row `512 t + k` of the widened `dy`. -/
theorem blk_D (t : Fin cfg0.N) (n : ℕ) (e : n = t.val * 512) (hn : ∀ k : Fin 512, n + k < 65536) (k : Fin 512) (q : Fin 3840) :
    blkD (iblk m c 1 t) (ix2 k q) = wD (D m c) (ix2 ⟨n + k, hn k⟩ q) := by
  refine (Mx.wideOf_part (part_D m c t) (Block.inv kD) (sc kD) loD hiD (G := 2048) (G' := 16) rfl rfl k q).trans ?_
  refine congrArg (wD (D m c)) (congrArg (fun k => ix2 k q) (Fin.ext ?_))
  show 16 * t.val * 32 + (k : ℕ) = n + (k : ℕ)
  omega

/-- The first point leaves its block's product on the zero block. -/
theorem at_2_first (t : Fin cfg0.N) (h0 : t.val % 128 = 0) :
    (outsAt0 m c t.val t.isLt).1 = k0_pay1 k0_pay176 (blkX (iblk m c 0 t)) (blkD (iblk m c 1 t)) := by
  rw [outsAt0_A m c t h0]; dsimp only; rw [out_A_2]

/-- A later point adds its block's product to what the point before left. -/
theorem at_2_next (t : Fin cfg0.N) (h0 : ¬t.val % 128 = 0) :
    (outsAt0 m c t.val t.isLt).1
      = k0_pay1 (outsAt0 m c (t.val - 1) (Nat.lt_of_le_of_lt (Nat.sub_le _ _) t.isLt)).1 (blkX (iblk m c 0 t)) (blkD (iblk m c 1 t)) := by
  rw [outsAt0_B m c t h0]; dsimp only; rw [out_B_2]

/-- After point `n` the product's buffer holds the sum over the rows read so far. -/
theorem at_2 (p : Fin 1024) (q : Fin 3840) : ∀ (n : ℕ) (h : n < cfg0.N),
    (outsAt0 m c n h).1 (ix2 p q) = upTo (fun k : Fin 65536 => wX (X m c) (ix2 k p) * wD (D m c) (ix2 k q)) (n * 512 + 512)
  | 0, h => by
    have hn : ∀ k : Fin 512, 0 * 512 + (k : ℕ) < 65536 := fun k => by have := k.isLt; omega
    refine (congrFun (at_2_first m c ⟨0, h⟩ rfl) (ix2 p q)).trans ?_
    exact step_upTo (wX (X m c)) (wD (D m c)) _ _ _ (0 * 512) hn (blk_X m c ⟨0, h⟩ _ rfl hn) (blk_D m c ⟨0, h⟩ _ rfl hn) p q
      ((zero_apply p q).trans (by rw [Nat.zero_mul, upTo_zero]))
  | n + 1, h => by
    have hN : n + 1 < 128 := lt_of_lt_of_eq h N_0
    have hn : ∀ k : Fin 512, (n + 1) * 512 + (k : ℕ) < 65536 := fun k => by have := k.isLt; omega
    have hB : ¬(⟨n + 1, h⟩ : Fin cfg0.N).val % 128 = 0 := by dsimp only; omega
    refine (congrFun (at_2_next m c ⟨n + 1, h⟩ hB) (ix2 p q)).trans ?_
    refine step_upTo (wX (X m c)) (wD (D m c)) _ _ _ ((n + 1) * 512) hn (blk_X m c ⟨n + 1, h⟩ _ rfl hn) (blk_D m c ⟨n + 1, h⟩ _ rfl hn) p q ?_
    refine (at_2 p q n (Nat.lt_of_succ_lt h)).trans ?_
    rw [Nat.add_mul, Nat.one_mul]

/-- The product's window has the block index `(0, 0)` at every point. -/
theorem index_2 : ∀ t : Fin cfg0.N, win0_2.index t = ![0, 0] :=
  (by decide +kernel : ∀ t : Fin grid0.N, win0_2.index t = ![0, 0])

/-- The product's one block is the whole array. -/
theorem cut_2 (t : Fin cfg0.N) (v : Vec Ideal S1024x3840 .f32) :
    (cfg0.win 2).cut (grid0.coords t) v = ((cfg0.win 2).blk t).view.read (Elt Ideal) v := by
  funext y
  exact Rows.read_eq (R := 1024) (B := 1024) (W := 3840) (index_2 t) (fun _ a => ValueKit.view_emb_slice_whole_unit_val main_v2_0 _ _ _ _ a)
    (fun r => by have := r.isLt; omega) (fun r l => congrArg (fun k => v (ix2 k l)) (Fin.ext (show (r : ℕ) = 0 * 1024 + (r : ℕ) by omega))) y

/-- Every index of the product lies in the one block, which the last point writes back. -/
theorem cover_2 (i : S1024x3840.Idx) : ∃ t : Fin cfg0.N, (cfg0.win 2).flush t = true ∧ i ∈ ((cfg0.win 2).blk t).view.set := by
  have h0 : (i 0 : ℕ) < 1024 := (i 0).isLt
  obtain ⟨t, ht⟩ : ∃ t : Fin cfg0.N, (cfg0.win 2).flush t = true := ⟨⟨127, lt_of_lt_of_eq (by omega) N_0.symm⟩, (flush0_2 _).mpr rfl⟩
  refine ⟨t, ht, ?_⟩
  show i ∈ ((View.whole main_v2_0).slice (win0_2.rect t)).set
  rw [View.set_slice_whole, Rect.mem_set_unit]
  exact Rows.mem_rows (R := 1024) (B := 1024) (W := 3840) (index_2 t) i (by omega) (by omega)

/-- The first result ends at `G` when the last point's buffer holds `G`. -/
theorem arr_2 (G : Vec Ideal S1024x3840 .f32)
    (H : ∀ (t : Fin cfg0.N), t.val = 127 → (outsAt0 m c t.val t.isLt).1 = G) :
    (dats m 0 c).arrAt 2 cfg0.N = G :=
  (dats m 0 c).arrAt_eq_of_cover 2 G (fun t hf =>
    (Value.flushed2 m c t).trans ((congrArg ((cfg0.win 2).cut (grid0.coords t)) (H t (by
      have := (flush0_2 t).mp hf; have := lt_N t; omega))).trans (cut_2 t G))) cover_2

/-- The product of two matrices of 65536 rows, the first transposed. -/
def prod (A : Vec Ideal S65536x1024 .bf16) (B : Vec Ideal S65536x3840 .bf16) : Vec Ideal S1024x3840 .f32 :=
  fun i => ∑ k : Fin 65536, A (ix2 k (i 0)) * B (ix2 k (i 1))

/-- The first result ends holding the product of the two widened matrices. -/
theorem final_2 : (dats m 0 c).arrAt 2 cfg0.N = prod (wX (X m c)) (wD (D m c)) := by
  refine arr_2 m c _ fun t ht => ?_
  funext y
  obtain ⟨p, q, rfl⟩ : ∃ (p : Fin 1024) (q : Fin 3840), y = ix2 p q := ⟨y 0, y 1, eq_ix2 y⟩
  refine (at_2 m c p q t.val t.isLt).trans ?_
  rw [ht]
  exact upTo_all (fun k : Fin 65536 => wX (X m c) (ix2 k p) * wD (D m c) (ix2 k q))

end Cert.KernelIdeal.Product

end
end
-- ==== Proof.Whole.lean ====
/-
  What the reference does with one matrix, named once for a matrix of any size (`N` rows in `G` groups of 32, `C` columns):
  the reference repeats these operations for `x` and for `dy`. The lemmas read them at one element over the extended reals,
  and end in the quantised arrays of `Group.lean`.
-/
module

public import proofs.«01_k».proof.Proof.Group
public import Idealize.ShloMosaic.Lib.Pipeline.Value

@[expose] public section

noncomputable section

namespace Cert.Mx.Whole

open Idealize.ShloMosaic

variable {N G C : ℕ}

/-! ## Reshapes and broadcasts between rows and groups of rows -/

section Moves

variable {α : Type}

/-- Rows as groups of 32. -/
theorem split_apply (hN : N = G * 32) (v : (⟨2, ![N, C]⟩ : Shape).Idx → α)
    (h : (⟨2, ![N, C]⟩ : Shape).ShapeCasts ⟨3, ![G, 32, C]⟩) (g : Fin G) (s : Fin 32) (l : Fin C) :
    shapeCast ⟨3, ![G, 32, C]⟩ v h (ix3 g s l)
      = v (ix2 ⟨g * 32 + s, by have := g.isLt; have := s.isLt; omega⟩ l) := by
  refine shapeCast_apply v h _ _ ?_
  rw [rowMajor_val2 _ C rfl, rowMajor_val3 _ (32 * C) C rfl rfl]
  show ((g : ℕ) * 32 + s) * C + l = g * (32 * C) + s * C + l
  ring

/-- Groups of 32 as rows. -/
theorem merge_apply (hN : N = G * 32) (v : (⟨3, ![G, 32, C]⟩ : Shape).Idx → α)
    (h : (⟨3, ![G, 32, C]⟩ : Shape).ShapeCasts ⟨2, ![N, C]⟩) (r : Fin N) (l : Fin C) :
    shapeCast ⟨2, ![N, C]⟩ v h (ix2 r l) = v (ix3 (rowGroup hN r) ⟨r % 32, Nat.mod_lt _ (by norm_num)⟩ l) := by
  refine shapeCast_apply v h _ _ ?_
  rw [rowMajor_val2 _ C rfl, rowMajor_val3 _ (32 * C) C rfl rfl]
  show (r : ℕ) / 32 * (32 * C) + (r : ℕ) % 32 * C + l = r * C + l
  have := Nat.div_add_mod (r : ℕ) 32
  calc (r : ℕ) / 32 * (32 * C) + (r : ℕ) % 32 * C + l = (32 * ((r : ℕ) / 32) + (r : ℕ) % 32) * C + l := by ring
    _ = r * C + l := by rw [this]

/-- A value per group, handed to the group's 32 rows. -/
theorem spread_apply (v : (⟨2, ![G, C]⟩ : Shape).Idx → α) (h : (⟨2, ![G, C]⟩ : Shape).ShapeCasts ⟨3, ![G, 1, C]⟩)
    (hb : (⟨3, ![G, 1, C]⟩ : Shape).Broadcasts ⟨3, ![G, 32, C]⟩) (g : Fin G) (s : Fin 32) (l : Fin C) :
    broadcastTo ⟨3, ![G, 32, C]⟩ (shapeCast ⟨3, ![G, 1, C]⟩ v h) hb (ix3 g s l) = v (ix2 g l) := by
  refine (broadcastTo_apply _ hb (ix3 g s l) (ix3 g 0 l) fun a => ?_).trans (shapeCast_apply v h _ _ ?_)
  · match a with
    | ⟨0, _⟩ =>
      show (g : ℕ) = if G = 1 then 0 else (g : ℕ)
      split
      · have := g.isLt; omega
      · rfl
    | ⟨1, _⟩ => rfl
    | ⟨2, _⟩ =>
      show (l : ℕ) = if C = 1 then 0 else (l : ℕ)
      split
      · have := l.isLt; omega
      · rfl
  · rw [rowMajor_val2 _ C rfl, rowMajor_val3 _ (1 * C) C rfl rfl]
    show (g : ℕ) * C + l = g * (1 * C) + 0 * C + l
    ring

/-- A value per group, handed to each of the 254 candidates. -/
theorem front_apply (v : (⟨2, ![G, C]⟩ : Shape).Idx → α) (h : (⟨2, ![G, C]⟩ : Shape).ShapeCasts ⟨3, ![1, G, C]⟩)
    (hb : (⟨3, ![1, G, C]⟩ : Shape).Broadcasts ⟨3, ![254, G, C]⟩) (k : Fin 254) (g : Fin G) (l : Fin C) :
    broadcastTo ⟨3, ![254, G, C]⟩ (shapeCast ⟨3, ![1, G, C]⟩ v h) hb (ix3 k g l) = v (ix2 g l) := by
  refine (broadcastTo_apply _ hb (ix3 k g l) (ix3 0 g l) fun a => ?_).trans (shapeCast_apply v h _ _ ?_)
  · match a with
    | ⟨0, _⟩ => rfl
    | ⟨1, _⟩ =>
      show (g : ℕ) = if G = 1 then 0 else (g : ℕ)
      split
      · have := g.isLt; omega
      · rfl
    | ⟨2, _⟩ =>
      show (l : ℕ) = if C = 1 then 0 else (l : ℕ)
      split
      · have := l.isLt; omega
      · rfl
  · rw [rowMajor_val2 _ C rfl, rowMajor_val3 _ (G * C) C rfl rfl]
    show (g : ℕ) * C + l = 0 * (G * C) + g * C + l
    ring

end Moves

/-! ## The reference's operations -/

/-- The matrix as groups of 32 rows. -/
def groups (φ : FTy) (v : FVec Ideal ⟨2, ![N, C]⟩ φ) (h0 : (⟨2, ![N, C]⟩ : Shape).ShapeCasts ⟨2, ![N, C]⟩)
    (h : (⟨2, ![N, C]⟩ : Shape).ShapeCasts ⟨3, ![G, 32, C]⟩) (hb : φ.bits < FTy.bits .f32) : FVec Ideal ⟨3, ![G, 32, C]⟩ .f32 :=
  shapeCast ⟨3, ![G, 32, C]⟩ (extf .f32 (shapeCast ⟨2, ![N, C]⟩ v h0) hb) h

/-- Each group's greatest absolute value. -/
def most (b : FVec Ideal ⟨3, ![G, 32, C]⟩ .f32) (hr : (⟨3, ![G, 32, C]⟩ : Shape).Reduces [1] ⟨2, ![G, C]⟩) :
    FVec Ideal ⟨2, ![G, C]⟩ .f32 :=
  multiReduction .maximumf [1] ⟨2, ![G, C]⟩ (absf b) 0xFF800000#32 hr (.inl rfl) rfl

/-- The exponent of each group's ratio `r`, before the two exceptions: the least candidate above it. -/
def least (r : FVec Ideal ⟨2, ![G, C]⟩ .f32) (hi : (⟨3, ![254, G, C]⟩ : Shape).Iotas .tc 32 [0])
    (hf : (⟨2, ![G, C]⟩ : Shape).ShapeCasts ⟨3, ![1, G, C]⟩) (hb : (⟨3, ![1, G, C]⟩ : Shape).Broadcasts ⟨3, ![254, G, C]⟩)
    (hr : (⟨3, ![254, G, C]⟩ : Shape).Reduces [0] ⟨2, ![G, C]⟩) : FVec Ideal ⟨2, ![G, C]⟩ .f32 :=
  let k : FVec Ideal ⟨3, ![254, G, C]⟩ .f32 := subf (sitofp .f32 (iota .tc ⟨3, ![254, G, C]⟩ 32 [0] hi))
    (broadcast ⟨3, ![254, G, C]⟩ (Scalar.ofBits .f32 0x42FA0000#32))
  multiReduction .minimumf [0] ⟨2, ![G, C]⟩
    (select (cmpf .olt (broadcastTo ⟨3, ![254, G, C]⟩ (shapeCast ⟨3, ![1, G, C]⟩ r hf) hb) (exp2 k)) k
      (broadcast ⟨3, ![254, G, C]⟩ (Scalar.ofBits .f32 0x43000000#32))) 0x7F800000#32 hr (.inl rfl) rfl

/-- The exponent of each group: of `a` times `κ`, and zero where that lies below the normal numbers or `a` is zero. -/
def exponent (κ : BitVec 32) (a : FVec Ideal ⟨2, ![G, C]⟩ .f32) (hi : (⟨3, ![254, G, C]⟩ : Shape).Iotas .tc 32 [0])
    (hf : (⟨2, ![G, C]⟩ : Shape).ShapeCasts ⟨3, ![1, G, C]⟩) (hb : (⟨3, ![1, G, C]⟩ : Shape).Broadcasts ⟨3, ![254, G, C]⟩)
    (hr : (⟨3, ![254, G, C]⟩ : Shape).Reduces [0] ⟨2, ![G, C]⟩) : FVec Ideal ⟨2, ![G, C]⟩ .f32 :=
  let r : FVec Ideal ⟨2, ![G, C]⟩ .f32 := mulf a (broadcast ⟨2, ![G, C]⟩ (Scalar.ofBits .f32 κ))
  select (cmpf .oeq a (broadcast ⟨2, ![G, C]⟩ (Scalar.ofBits .f32 0x00000000#32)))
    (broadcast ⟨2, ![G, C]⟩ (Scalar.ofBits .f32 0x00000000#32))
    (select (cmpf .olt r (broadcast ⟨2, ![G, C]⟩ (Scalar.ofBits .f32 0x00800000#32)))
      (broadcast ⟨2, ![G, C]⟩ (Scalar.ofBits .f32 0x00000000#32)) (least r hi hf hb hr))

/-- The codes: the elements times the reciprocal scale, clipped. -/
def codes (ψ : FTy) (hψ : ψ.bits < FTy.bits .f32) (lo hi : BitVec 32) (b : FVec Ideal ⟨3, ![G, 32, C]⟩ .f32)
    (e : FVec Ideal ⟨2, ![G, C]⟩ .f32) (h1 : (⟨2, ![G, C]⟩ : Shape).ShapeCasts ⟨3, ![G, 1, C]⟩)
    (hb : (⟨3, ![G, 1, C]⟩ : Shape).Broadcasts ⟨3, ![G, 32, C]⟩) (h : (⟨3, ![G, 32, C]⟩ : Shape).ShapeCasts ⟨2, ![N, C]⟩) :
    FVec Ideal ⟨2, ![N, C]⟩ ψ :=
  shapeCast ⟨2, ![N, C]⟩ (truncf ψ (minimumf (broadcast ⟨3, ![G, 32, C]⟩ (Scalar.ofBits .f32 hi))
    (maximumf (broadcast ⟨3, ![G, 32, C]⟩ (Scalar.ofBits .f32 lo)) (mulf b (broadcastTo ⟨3, ![G, 32, C]⟩ (shapeCast ⟨3, ![G, 1, C]⟩
      (exp2 (subf (broadcast ⟨2, ![G, C]⟩ (Scalar.ofBits .f32 0x00000000#32)) e)) h1) hb)))) hψ) h

/-- The codes times their scale. -/
def wide (ψ : FTy) (hψ : ψ.bits < FTy.bits .bf16) (hf : FTy.bits .bf16 < FTy.bits .f32) (q : FVec Ideal ⟨2, ![N, C]⟩ ψ)
    (sc : FVec Ideal ⟨2, ![G, C]⟩ .f32) (hs : (⟨2, ![N, C]⟩ : Shape).ShapeCasts ⟨3, ![G, 32, C]⟩)
    (h1 : (⟨2, ![G, C]⟩ : Shape).ShapeCasts ⟨3, ![G, 1, C]⟩) (hb : (⟨3, ![G, 1, C]⟩ : Shape).Broadcasts ⟨3, ![G, 32, C]⟩)
    (h : (⟨3, ![G, 32, C]⟩ : Shape).ShapeCasts ⟨2, ![N, C]⟩) : FVec Ideal ⟨2, ![N, C]⟩ .bf16 :=
  shapeCast ⟨2, ![N, C]⟩ (mulf (shapeCast ⟨3, ![G, 32, C]⟩ (extf .bf16 q hψ) hs)
    (broadcastTo ⟨3, ![G, 32, C]⟩ (shapeCast ⟨3, ![G, 1, C]⟩ (truncf .bf16 sc hf) h1) hb)) h

/-! ## At one element -/

/-- Row `s` of group `g` of column `l` is that element of the matrix's group. -/
theorem groups_apply (hN : N = G * 32) (φ : FTy) (v : FVec Ideal ⟨2, ![N, C]⟩ φ) (h0 h hb) (g : Fin G) (s : Fin 32) (l : Fin C) :
    groups φ v h0 h hb (ix3 g s l) = group hN v g l s := by
  unfold groups
  rw [split_apply hN, shapeCast_self]
  rfl

/-- The greatest absolute value of group `g` of column `l`. -/
theorem most_apply (b : FVec Ideal ⟨3, ![G, 32, C]⟩ .f32) (hr) (g : Fin G) (l : Fin C) :
    most b hr (ix2 g l) = amax fun s => b (ix3 g s l) := by
  unfold most
  refine (multiReduction_maximumf_eq_fold _ _ hr _ _ _).trans ?_
  rw [Shape.Reduces.fold_fiber_r3_a1]
  show Finset.fold max (Ideal.ofBits .f32 0xFF800000#32) _ _ = _
  rw [show Ideal.ofBits .f32 0xFF800000#32 = ⊥ by simp [Ideal.ofBits, Ideal.ieee]]
  rfl

/-- A one-bit comparison's selection. -/
theorem select_olt (a b x y : EReal) : Scalar.select (α := EReal) (FloatOps.cmpf (F := Ideal) (φ := .f32) .olt a b) x y = if a < b then x else y := by
  by_cases h : a < b
  · rw [if_pos h]; simp [Scalar.select, FloatOps.cmpf, Ideal.cmp, h]
  · rw [if_neg h]; simp [Scalar.select, FloatOps.cmpf, Ideal.cmp, h]

/-- An equality's selection. -/
theorem select_oeq (a b x y : EReal) : Scalar.select (α := EReal) (FloatOps.cmpf (F := Ideal) (φ := .f32) .oeq a b) x y = if a = b then x else y := by
  by_cases h : a = b
  · rw [if_pos h]; simp [Scalar.select, FloatOps.cmpf, Ideal.cmp, h]
  · rw [if_neg h]; simp [Scalar.select, FloatOps.cmpf, Ideal.cmp, h]

/-- The float word of 125. -/
theorem ofBits_125 : Ideal.ofBits .f32 0x42FA0000#32 = ((125 : ℝ) : EReal) := by
  simp [Ideal.ofBits, Ideal.ieee]
  rw [← EReal.coe_mul]
  norm_num

/-- The float word of 128. -/
theorem ofBits_128 : Ideal.ofBits .f32 0x43000000#32 = ((128 : ℝ) : EReal) := by
  simp [Ideal.ofBits, Ideal.ieee]
  rw [← EReal.coe_mul]
  norm_num

/-- The `k`-th candidate's index, as a number. -/
theorem toInt_candidate (k : Fin 254) : (((BitVec.ofNat 32 (0 * 254 + (k : ℕ))).toInt : ℝ) : EReal) = (((k : ℕ) : ℝ) : EReal) := by
  have h : (BitVec.ofNat 32 (0 * 254 + (k : ℕ))).toInt = ((k : ℕ) : ℤ) := by
    revert k; decide
  rw [h]; rfl

/-- The least candidate exponent at one element. -/
theorem least_apply (r : FVec Ideal ⟨2, ![G, C]⟩ .f32) (hi hf hb hr) (g : Fin G) (l : Fin C) :
    least r hi hf hb hr (ix2 g l) = Finset.univ.fold min ⊤ fun k : Fin 254 =>
      if r (ix2 g l) < Ideal.exp2 ((((k : ℕ) : ℝ) : EReal) - ((125 : ℝ) : EReal)) then (((k : ℕ) : ℝ) : EReal) - ((125 : ℝ) : EReal)
      else ((128 : ℝ) : EReal) := by
  unfold least
  refine (multiReduction_minimumf_eq_fold _ _ hr _ _ _).trans ?_
  rw [Shape.Reduces.fold_fiber_r3_a0]
  show Finset.fold min (Ideal.ofBits .f32 0x7F800000#32) _ _ = _
  rw [show Ideal.ofBits .f32 0x7F800000#32 = ⊤ by simp [Ideal.ofBits, Ideal.ieee]]
  refine congrArg (fun f => Finset.fold min ⊤ f Finset.univ) (funext fun k => ?_)
  refine (select_olt _ _ _ _).trans ?_
  have e : (subf (sitofp .f32 (iota .tc ⟨3, ![254, G, C]⟩ 32 [0] hi))
      (broadcast ⟨3, ![254, G, C]⟩ (Scalar.ofBits .f32 0x42FA0000#32)) : FVec Ideal ⟨3, ![254, G, C]⟩ .f32) (ix3 k g l)
      = (((k : ℕ) : ℝ) : EReal) - ((125 : ℝ) : EReal) := by
    show (((BitVec.ofNat 32 (0 * 254 + (k : ℕ))).toInt : ℝ) : EReal) - Ideal.ofBits .f32 0x42FA0000#32 = _
    rw [toInt_candidate, ofBits_125]
  have e' := front_apply r hf hb k g l
  refine if_congr ?_ e ofBits_128
  exact iff_of_eq (congrArg₂ (· < ·) e' (congrArg Ideal.exp2 e))

/-- The exponent at one element, as a function of the group's greatest absolute value. -/
theorem exponent_apply (κ : BitVec 32) (a : FVec Ideal ⟨2, ![G, C]⟩ .f32) (hi hf hb hr) (g : Fin G) (l : Fin C) :
    exponent κ a hi hf hb hr (ix2 g l) = expR (a (ix2 g l)) (a (ix2 g l) * Ideal.ofBits .f32 κ) := by
  unfold exponent expR
  refine (select_oeq _ _ _ _).trans ?_
  have z : Ideal.ofBits .f32 0x00000000#32 = 0 := Ideal.ofBits_zero_f32
  refine if_congr (iff_of_eq (congrArg (a (ix2 g l) = ·) z)) z ((select_olt _ _ _ _).trans ?_)
  exact if_congr Iff.rfl z (least_apply _ hi hf hb hr g l)

/-- The codes at one element. -/
theorem codes_apply (hN : N = G * 32) (ψ : FTy) (hψ) (lo hi : BitVec 32) (b : FVec Ideal ⟨3, ![G, 32, C]⟩ .f32)
    (e : FVec Ideal ⟨2, ![G, C]⟩ .f32) (h1 hb h) (r : Fin N) (l : Fin C) :
    codes ψ hψ lo hi b e h1 hb h (ix2 r l)
      = clip lo hi (b (ix3 (rowGroup hN r) ⟨r % 32, Nat.mod_lt _ (by norm_num)⟩ l)) (Ideal.exp2 (0 - e (ix2 (rowGroup hN r) l))) := by
  unfold codes
  rw [merge_apply hN]
  have e' := spread_apply (exp2 (subf (broadcast ⟨2, ![G, C]⟩ (Scalar.ofBits .f32 0x00000000#32)) e)) h1 hb (rowGroup hN r)
    ⟨r % 32, Nat.mod_lt _ (by norm_num)⟩ l
  have z : Ideal.ofBits .f32 0x00000000#32 = 0 := Ideal.ofBits_zero_f32
  refine congrArg (clip lo hi _) (e'.trans ?_)
  exact congrArg (fun z => Ideal.exp2 (z - e (ix2 (rowGroup hN r) l))) z

/-- The widened matrix at one element. -/
theorem wide_apply (hN : N = G * 32) (ψ : FTy) (hψ hf) (q : FVec Ideal ⟨2, ![N, C]⟩ ψ) (sc : FVec Ideal ⟨2, ![G, C]⟩ .f32)
    (hs h1 hb h) (r : Fin N) (l : Fin C) :
    wide ψ hψ hf q sc hs h1 hb h (ix2 r l) = (q (ix2 r l) * sc (ix2 (rowGroup hN r) l) : EReal) := by
  unfold wide
  rw [merge_apply hN]
  refine congrArg₂ (fun a b : EReal => a * b) ((split_apply hN _ hs _ _ l).trans ?_) (spread_apply _ h1 hb _ _ l)
  refine congrArg (fun r => q (ix2 r l)) (Fin.ext ?_)
  show (r : ℕ) / 32 * 32 + (r : ℕ) % 32 = r
  omega

/-! ## The reference's arrays -/

/-- The reference's reciprocal scale as a function of the group's greatest absolute value. -/
def inv (κ : BitVec 32) (a : EReal) : EReal := inverseR a (a * Ideal.ofBits .f32 κ)
/-- The reference's scale as a function of the group's greatest absolute value. -/
def sc (κ : BitVec 32) (a : EReal) : EReal := scaleR a (a * Ideal.ofBits .f32 κ)

/-- The exponents of a matrix's groups. -/
theorem exponent_eq (hN : N = G * 32) (κ : BitVec 32) (φ : FTy) (v : FVec Ideal ⟨2, ![N, C]⟩ φ) (h0 h hb hr hi hf hb' hr')
    (g : Fin G) (l : Fin C) :
    exponent κ (most (groups (G := G) φ v h0 h hb) hr) hi hf hb' hr' (ix2 g l)
      = expR (amax (group hN v g l)) (amax (group hN v g l) * Ideal.ofBits .f32 κ) := by
  rw [exponent_apply, most_apply]
  simp only [groups_apply hN]

/-- The scales are the power of two of the exponents. -/
theorem scales_eq (hN : N = G * 32) (κ : BitVec 32) (φ : FTy) (v : FVec Ideal ⟨2, ![N, C]⟩ φ) (h0 h hb hr hi hf hb' hr') :
    exp2 (exponent κ (most (groups (G := G) φ v h0 h hb) hr) hi hf hb' hr') = scalesOf (sc κ) hN v := by
  funext i
  obtain ⟨g, l, rfl⟩ : ∃ (g : Fin G) (l : Fin C), i = ix2 g l := ⟨i 0, i 1, eq_ix2 i⟩
  exact congrArg Ideal.exp2 (exponent_eq hN κ φ v h0 h hb hr hi hf hb' hr' g l)

/-- The codes. -/
theorem codes_eq (hN : N = G * 32) (ψ : FTy) (hψ) (κ lo hi : BitVec 32) (φ : FTy) (v : FVec Ideal ⟨2, ![N, C]⟩ φ)
    (h0 h hb hr hi' hf hb' hr' h1 hb1 h2) :
    codes ψ hψ lo hi (groups (G := G) φ v h0 h hb) (exponent κ (most (groups (G := G) φ v h0 h hb) hr) hi' hf hb' hr') h1 hb1 h2
      = codesOf (inv κ) lo hi hN v := by
  funext i
  obtain ⟨r, l, rfl⟩ : ∃ (r : Fin N) (l : Fin C), i = ix2 r l := ⟨i 0, i 1, eq_ix2 i⟩
  rw [codes_apply hN, exponent_eq hN, groups_apply hN]
  unfold codesOf
  refine congrArg (fun x => clip lo hi x _) (congrArg (fun r => v (ix2 r l)) (Fin.ext ?_))
  show (r : ℕ) / 32 * 32 + (r : ℕ) % 32 = r
  omega

/-- The codes times their scale. -/
theorem wide_eq (hN : N = G * 32) (ψ : FTy) (hψ hf) (κ lo hi : BitVec 32) (v : (⟨2, ![N, C]⟩ : Shape).Idx → EReal)
    (q : FVec Ideal ⟨2, ![N, C]⟩ ψ) (s : FVec Ideal ⟨2, ![G, C]⟩ .f32) (hq : q = codesOf (inv κ) lo hi hN v)
    (hsc : s = scalesOf (sc κ) hN v) (hs h1 hb h) :
    wide ψ hψ hf q s hs h1 hb h = wideOf (inv κ) (sc κ) lo hi hN v := by
  subst hq hsc
  funext i
  obtain ⟨r, l, rfl⟩ : ∃ (r : Fin N) (l : Fin C), i = ix2 r l := ⟨i 0, i 1, eq_ix2 i⟩
  exact wide_apply hN ψ hψ hf _ _ hs h1 hb h r l

end Cert.Mx.Whole

end
end
-- ==== Proof.Ref.lean ====
/-
  What the reference's result arrays hold, over the extended reals: its one point reads both matrices whole and leaves the
  codes and scales of each, and the product of the two widened matrices.
-/
module

public import proofs.«01_k».proof.Proof.Gen.ReferenceIdeal.Value
public import proofs.«01_k».proof.Proof.Rows
public import proofs.«01_k».proof.Proof.Whole
public import Idealize.ShloMosaic.Lib.Pipeline.ValueKit
public import Idealize.ShloMosaic.Lib.Pipeline.FrameBody
public import Idealize.ShloMosaic.Lib.Tactic
public import Idealize.ShloMosaic.Lib.Pointwise

@[expose] public section

set_option maxRecDepth 16384

noncomputable section

namespace Cert.ReferenceIdeal.Ref

open Cert.ReferenceIdeal Cert.ReferenceIdeal.Gen Idealize.ShloMosaic Idealize.ShloMosaic.TcCoe

/-- One over the greatest number of `x`'s format. -/
abbrev kX : BitVec 32 := 0x3B124925#32
/-- The lower clipping bound of `x`'s codes. -/
abbrev loX : BitVec 32 := 0xC3E00000#32
/-- The upper clipping bound of `x`'s codes. -/
abbrev hiX : BitVec 32 := 0x43E00000#32
/-- One over the greatest number of `dy`'s format. -/
abbrev kD : BitVec 32 := 0x37924925#32
/-- The lower clipping bound of `dy`'s codes. -/
abbrev loD : BitVec 32 := 0xC7600000#32
/-- The upper clipping bound of `dy`'s codes. -/
abbrev hiD : BitVec 32 := 0x47600000#32

/-! ## The printed operations are the named ones -/

/-- `x` as groups of 32 rows. -/
abbrev gX (v : Vec Ideal S65536x1024 .bf16) : FVec Ideal S2048x32x1024 .f32 :=
  Mx.Whole.groups (N := 65536) (G := 2048) (C := 1024) .bf16 v shapeCasts_S65536x1024_S65536x1024 shapeCasts_S65536x1024_S2048x32x1024 bitsLt_bf16_f32

/-- The exponents of the groups of `x`. -/
abbrev eX (v : Vec Ideal S65536x1024 .bf16) : FVec Ideal S2048x1024 .f32 :=
  Mx.Whole.exponent (G := 2048) (C := 1024) kX (Mx.Whole.most (G := 2048) (C := 1024) (gX v) reduces_S2048x32x1024_S2048x1024)
    iota_S254x2048x1024_d0_w32 shapeCasts_S2048x1024_S1x2048x1024 broadcasts_S1x2048x1024_S254x2048x1024 reduces_S254x2048x1024_S2048x1024

/-- The codes of `x` as printed. -/
abbrev qX (v : Vec Ideal S65536x1024 .bf16) : FVec Ideal S65536x1024 .fp8e4m3 :=
  Mx.Whole.codes (N := 65536) (G := 2048) (C := 1024) .fp8e4m3 bitsLt_fp8e4m3_f32 loX hiX (gX v) (eX v) shapeCasts_S2048x1024_S2048x1x1024
    broadcasts_S2048x1x1024_S2048x32x1024 shapeCasts_S2048x32x1024_S65536x1024

/-- The codes of `x` times their scale as printed. -/
abbrev wX (q : FVec Ideal S65536x1024 .fp8e4m3) (s : FVec Ideal S2048x1024 .f32) : FVec Ideal S65536x1024 .bf16 :=
  Mx.Whole.wide (N := 65536) (G := 2048) (C := 1024) .fp8e4m3 bitsLt_fp8e4m3_bf16 bitsLt_bf16_f32 q s shapeCasts_S65536x1024_S2048x32x1024
    shapeCasts_S2048x1024_S2048x1x1024 broadcasts_S2048x1x1024_S2048x32x1024 shapeCasts_S2048x32x1024_S65536x1024

/-- The codes of `x`. -/
def codesX (v : Vec Ideal S65536x1024 .bf16) : Vec Ideal S65536x1024 .fp8e4m3 :=
  Mx.codesOf (R := 65536) (G := 2048) (W := 1024) (Mx.Whole.inv kX) loX hiX rfl v

/-- The scales of `x`. -/
def scalesX (v : Vec Ideal S65536x1024 .bf16) : Vec Ideal S2048x1024 .f32 :=
  Mx.scalesOf (R := 65536) (G := 2048) (W := 1024) (Mx.Whole.sc kX) rfl v

/-- The widened `x`. -/
def wideX (v : Vec Ideal S65536x1024 .bf16) : Vec Ideal S65536x1024 .bf16 :=
  Mx.wideOf (R := 65536) (G := 2048) (W := 1024) (Mx.Whole.inv kX) (Mx.Whole.sc kX) loX hiX rfl v

/-- The printed codes of `x` are its codes. -/
theorem qX_eq (v : Vec Ideal S65536x1024 .bf16) : qX v = codesX v :=
  Mx.Whole.codes_eq (N := 65536) (G := 2048) (C := 1024) rfl .fp8e4m3 _ kX loX hiX .bf16 v _ _ _ _ _ _ _ _ _ _ _

/-- The printed scales of `x` are its scales. -/
theorem sX_eq (v : Vec Ideal S65536x1024 .bf16) : exp2 (eX v) = scalesX v :=
  Mx.Whole.scales_eq (N := 65536) (G := 2048) (C := 1024) rfl kX .bf16 v _ _ _ _ _ _ _ _

/-- The printed widening of `x`'s codes and scales is the widened `x`. -/
theorem wX_eq (v : Vec Ideal S65536x1024 .bf16) (q : FVec Ideal S65536x1024 .fp8e4m3) (s : FVec Ideal S2048x1024 .f32)
    (hq : q = codesX v) (hs : s = scalesX v) : wX q s = wideX v :=
  Mx.Whole.wide_eq (N := 65536) (G := 2048) (C := 1024) rfl .fp8e4m3 _ _ kX loX hiX v q s hq hs _ _ _ _

/-- `dy` as groups of 32 rows. -/
abbrev gD (v : Vec Ideal S65536x3840 .bf16) : FVec Ideal S2048x32x3840 .f32 :=
  Mx.Whole.groups (N := 65536) (G := 2048) (C := 3840) .bf16 v shapeCasts_S65536x3840_S65536x3840 shapeCasts_S65536x3840_S2048x32x3840 bitsLt_bf16_f32

/-- The exponents of the groups of `dy`. -/
abbrev eD (v : Vec Ideal S65536x3840 .bf16) : FVec Ideal S2048x3840 .f32 :=
  Mx.Whole.exponent (G := 2048) (C := 3840) kD (Mx.Whole.most (G := 2048) (C := 3840) (gD v) reduces_S2048x32x3840_S2048x3840)
    iota_S254x2048x3840_d0_w32 shapeCasts_S2048x3840_S1x2048x3840 broadcasts_S1x2048x3840_S254x2048x3840 reduces_S254x2048x3840_S2048x3840

/-- The codes of `dy` as printed. -/
abbrev qD (v : Vec Ideal S65536x3840 .bf16) : FVec Ideal S65536x3840 .fp8e5m2 :=
  Mx.Whole.codes (N := 65536) (G := 2048) (C := 3840) .fp8e5m2 bitsLt_fp8e5m2_f32 loD hiD (gD v) (eD v) shapeCasts_S2048x3840_S2048x1x3840
    broadcasts_S2048x1x3840_S2048x32x3840 shapeCasts_S2048x32x3840_S65536x3840

/-- The codes of `dy` times their scale as printed. -/
abbrev wD (q : FVec Ideal S65536x3840 .fp8e5m2) (s : FVec Ideal S2048x3840 .f32) : FVec Ideal S65536x3840 .bf16 :=
  Mx.Whole.wide (N := 65536) (G := 2048) (C := 3840) .fp8e5m2 bitsLt_fp8e5m2_bf16 bitsLt_bf16_f32 q s shapeCasts_S65536x3840_S2048x32x3840
    shapeCasts_S2048x3840_S2048x1x3840 broadcasts_S2048x1x3840_S2048x32x3840 shapeCasts_S2048x32x3840_S65536x3840

/-- The codes of `dy`. -/
def codesD (v : Vec Ideal S65536x3840 .bf16) : Vec Ideal S65536x3840 .fp8e5m2 :=
  Mx.codesOf (R := 65536) (G := 2048) (W := 3840) (Mx.Whole.inv kD) loD hiD rfl v

/-- The scales of `dy`. -/
def scalesD (v : Vec Ideal S65536x3840 .bf16) : Vec Ideal S2048x3840 .f32 :=
  Mx.scalesOf (R := 65536) (G := 2048) (W := 3840) (Mx.Whole.sc kD) rfl v

/-- The widened `dy`. -/
def wideD (v : Vec Ideal S65536x3840 .bf16) : Vec Ideal S65536x3840 .bf16 :=
  Mx.wideOf (R := 65536) (G := 2048) (W := 3840) (Mx.Whole.inv kD) (Mx.Whole.sc kD) loD hiD rfl v

/-- The printed codes of `dy` are its codes. -/
theorem qD_eq (v : Vec Ideal S65536x3840 .bf16) : qD v = codesD v :=
  Mx.Whole.codes_eq (N := 65536) (G := 2048) (C := 3840) rfl .fp8e5m2 _ kD loD hiD .bf16 v _ _ _ _ _ _ _ _ _ _ _

/-- The printed scales of `dy` are its scales. -/
theorem sD_eq (v : Vec Ideal S65536x3840 .bf16) : exp2 (eD v) = scalesD v :=
  Mx.Whole.scales_eq (N := 65536) (G := 2048) (C := 3840) rfl kD .bf16 v _ _ _ _ _ _ _ _

/-- The printed widening of `dy`'s codes and scales is the widened `dy`. -/
theorem wD_eq (v : Vec Ideal S65536x3840 .bf16) (q : FVec Ideal S65536x3840 .fp8e5m2) (s : FVec Ideal S2048x3840 .f32)
    (hq : q = codesD v) (hs : s = scalesD v) : wD q s = wideD v :=
  Mx.Whole.wide_eq (N := 65536) (G := 2048) (C := 3840) rfl .fp8e5m2 _ _ kD loD hiD v q s hq hs _ _ _ _

/-- The zero offset, as a function. -/
theorem hz : (![0, 0] : Fin 2 → Nat) = fun _ => 0 := funext fun a => by fin_cases a <;> rfl

/-- The stored scales of `x`, named. -/
theorem pay4 (v : Vec Ideal S65536x1024 .bf16) : k0_pay4 v = exp2 (eX v) := rfl
/-- The stored codes of `x`, named. -/
theorem pay5 (v : Vec Ideal S65536x1024 .bf16) : k0_pay5 v = qX v := rfl
/-- The stored scales of `dy`, named. -/
theorem pay8 (v : Vec Ideal S65536x3840 .bf16) : k0_pay8 (k0_pay6 v) = exp2 (eD v) := rfl
/-- The stored codes of `dy`, named. -/
theorem pay9 (v : Vec Ideal S65536x3840 .bf16) : k0_pay9 (k0_pay6 v) = qD v := rfl

variable (x0 : Vec Ideal S65536x1024 .bf16) (x1 : Vec Ideal S65536x3840 .bf16)

/-- The body loads `x` whole. -/
theorem ld_0 : View.ld x0 r0_0 = x0 := View.ld_unit_zero (S := S65536x1024) hz _ _
/-- The body loads `dy` whole. -/
theorem ld_1 : View.ld x1 r0_1 = x1 := View.ld_unit_zero (S := S65536x3840) hz _ _

/-- The groups of the loaded `dy` are the groups of `dy`. -/
theorem pay15 : k0_pay15 x0 x1 = k0_pay6 x1 := congrArg k0_pay6 (ld_1 x1)

/-- The body stores the scales of `x`. -/
theorem out_4 : k0_pay13 x0 x1 = scalesX x0 :=
  (congrArg k0_pay4 (ld_0 x0)).trans ((pay4 x0).trans (sX_eq x0))

/-- The body stores the codes of `x`. -/
theorem out_3 : k0_pay14 x0 x1 = codesX x0 :=
  (congrArg k0_pay5 (ld_0 x0)).trans ((pay5 x0).trans (qX_eq x0))

/-- The body stores the scales of `dy`. -/
theorem out_6 : k0_pay8 (k0_pay15 x0 x1) = scalesD x1 :=
  (congrArg k0_pay8 (pay15 x0 x1)).trans ((pay8 x1).trans (sD_eq x1))

/-- The body stores the codes of `dy`. -/
theorem out_5 : k0_pay9 (k0_pay15 x0 x1) = codesD x1 :=
  (congrArg k0_pay9 (pay15 x0 x1)).trans ((pay9 x1).trans (qD_eq x1))

/-- The product of two matrices of 65536 rows, the first transposed, as printed. -/
def mm (A : FVec Ideal S65536x1024 .bf16) (B : FVec Ideal S65536x3840 .bf16) : FVec Ideal S1024x3840 .f32 :=
  matmul dot_S65536x1024_S65536x3840_S1024x3840_0_0_1_1_n_n none A B (constant S1024x3840 .f32 0x00000000#32)

/-- The same, as a sum over the rows. -/
def prod (A : Vec Ideal S65536x1024 .bf16) (B : Vec Ideal S65536x3840 .bf16) : Vec Ideal S1024x3840 .f32 :=
  fun i => ∑ k : Fin 65536, A (ix2 k (i 0)) * B (ix2 k (i 1))

/-- The printed product at one element. -/
theorem mm_apply (A : FVec Ideal S65536x1024 .bf16) (B : FVec Ideal S65536x3840 .bf16) (p : Fin 1024) (q : Fin 3840) :
    mm A B (ix2 p q) = ∑ k : Fin 65536, A (ix2 k p) * B (ix2 k q) := by
  pointwise [mm]

/-- The printed product is the sum over the rows. -/
theorem mm_eq (A : FVec Ideal S65536x1024 .bf16) (B : FVec Ideal S65536x3840 .bf16) : mm A B = prod A B := by
  funext i
  obtain ⟨p, q, rfl⟩ : ∃ (p : Fin 1024) (q : Fin 3840), i = ix2 p q := ⟨i 0, i 1, eq_ix2 i⟩
  exact mm_apply A B p q

/-- The stored product, named. -/
theorem pay1 (v86 : FVec Ideal S65536x1024 .bf16) (v43 : FVec Ideal S2048x32x3840 .f32) :
    k0_pay1 v86 (k0_pay11 v43) (k0_pay12 v43) = mm v86 (wD (k0_pay9 v43) (k0_pay8 v43)) := rfl

/-- The widened `x` of the product, named. -/
theorem pay10 (s : FVec Ideal S2048x1024 .f32) (q : FVec Ideal S65536x1024 .fp8e4m3) : k0_pay10 s q = wX q s := rfl

/-- The body stores the product of the two widened matrices. -/
theorem out_2 :
    k0_pay1 (k0_pay10 (k0_pay13 x0 x1) (k0_pay14 x0 x1)) (k0_pay11 (k0_pay15 x0 x1)) (k0_pay12 (k0_pay15 x0 x1))
      = prod (wideX x0) (wideD x1) := by
  rw [pay1, pay10, wX_eq x0 _ _ (out_3 x0 x1) (out_4 x0 x1), wD_eq x1 _ _ (out_5 x0 x1) (out_6 x0 x1), mm_eq]

/-! ## The result arrays -/

variable (m : (ℓ : Loc nD τ sig) → Buf (Elt Ideal) ℓ) (c : Dev nD)

/-- The matrix of `x`'s rows. -/
abbrev X : Vec Ideal S65536x1024 .bf16 := V m c (Pipeline.arrRef spec0 0)
/-- The matrix of `dy`'s rows. -/
abbrev D : Vec Ideal S65536x3840 .bf16 := V m c (Pipeline.arrRef spec0 1)
/-- Window 0's one block has the index `(0, 0)`. -/
theorem index_0 : ∀ t : Fin cfg0.N, win0_0.index t = ![0, 0] :=
  (by decide +kernel : ∀ t : Fin grid0.N, win0_0.index t = ![0, 0])

/-- The one block of the matrix is the matrix. -/
theorem blk_0 (t : Fin cfg0.N) : iblk m c 0 t = X m c := by
  funext y
  exact (Rows.read_eq (R := 65536) (B := 65536) (W := 1024) (index_0 t) (fun _ a => ValueKit.view_emb_slice_whole_unit_val main_v0 _ _ _ _ a)
    (fun r => by have := r.isLt; omega)
    (fun r l => congrArg (fun k => X m c (ix2 k l)) (Fin.ext (show (r : ℕ) = 0 * 65536 + (r : ℕ) by omega))) y).symm

/-- Window 1's one block has the index `(0, 0)`. -/
theorem index_1 : ∀ t : Fin cfg0.N, win0_1.index t = ![0, 0] :=
  (by decide +kernel : ∀ t : Fin grid0.N, win0_1.index t = ![0, 0])

/-- The one block of the matrix is the matrix. -/
theorem blk_1 (t : Fin cfg0.N) : iblk m c 1 t = D m c := by
  funext y
  exact (Rows.read_eq (R := 65536) (B := 65536) (W := 3840) (index_1 t) (fun _ a => ValueKit.view_emb_slice_whole_unit_val main_v1 _ _ _ _ a)
    (fun r => by have := r.isLt; omega)
    (fun r l => congrArg (fun k => D m c (ix2 k l)) (Fin.ext (show (r : ℕ) = 0 * 65536 + (r : ℕ) by omega))) y).symm

/-- Window 2's one block has the index `(0, 0)`. -/
theorem index_2 : ∀ t : Fin cfg0.N, win0_2.index t = ![0, 0] :=
  (by decide +kernel : ∀ t : Fin grid0.N, win0_2.index t = ![0, 0])

/-- The one block of result 1 is the whole array. -/
theorem cut_2 (t : Fin cfg0.N) (v : Vec Ideal S1024x3840 .f32) :
    (cfg0.win 2).cut (grid0.coords t) v = ((cfg0.win 2).blk t).view.read (Elt Ideal) v := by
  funext y
  exact Rows.read_eq (R := 1024) (B := 1024) (W := 3840) (index_2 t) (fun _ a => ValueKit.view_emb_slice_whole_unit_val main_v2_0 _ _ _ _ a)
    (fun r => by have := r.isLt; omega) (fun r l => congrArg (fun k => v (ix2 k l)) (Fin.ext (show (r : ℕ) = 0 * 1024 + (r : ℕ) by omega))) y

/-- Every index of result 1 lies in the one block, which is written back. -/
theorem cover_2 (i : S1024x3840.Idx) : ∃ t : Fin cfg0.N, (cfg0.win 2).flush t = true ∧ i ∈ ((cfg0.win 2).blk t).view.set := by
  have h0 : (i 0 : ℕ) < 1024 := (i 0).isLt
  refine ⟨t0_0, flush0_2 _, ?_⟩
  show i ∈ ((View.whole main_v2_0).slice (win0_2.rect t0_0)).set
  rw [View.set_slice_whole, Rect.mem_set_unit]
  exact Rows.mem_rows (R := 1024) (B := 1024) (W := 3840) (index_2 t0_0) i (by omega) (by omega)

/-- Result 1 ends at `G` when the body leaves `G` of the two matrices. -/
theorem arr_2 (G : Vec Ideal S1024x3840 .f32) (H : out0_2 (X m c) (D m c) = G) : (dats m 0 c).arrAt 2 cfg0.N = G :=
  (dats m 0 c).arrAt_eq_of_cover 2 G (fun t _ => (Value.flushed2 m c t).trans ((congrArg ((cfg0.win 2).cut (grid0.coords t))
    ((congrArg₂ out0_2 (blk_0 m c t) (blk_1 m c t)).trans H)).trans (cut_2 t G))) cover_2

/-- Result 1 ends holding the product of the two widened matrices. -/
theorem final_2 : (dats m 0 c).arrAt 2 cfg0.N = prod (wideX (X m c)) (wideD (D m c)) := by
  refine arr_2 m c _ ?_
  generalize X m c = x0
  generalize D m c = x1
  unfold out0_2
  exact (View.canon_cons_unit_zero (S := S1024x3840) hz _ _ _).trans (out_2 x0 x1)

/-- Window 3's one block has the index `(0, 0)`. -/
theorem index_3 : ∀ t : Fin cfg0.N, win0_3.index t = ![0, 0] :=
  (by decide +kernel : ∀ t : Fin grid0.N, win0_3.index t = ![0, 0])

/-- The one block of result 2 is the whole array. -/
theorem cut_3 (t : Fin cfg0.N) (v : Vec Ideal S65536x1024 .fp8e4m3) :
    (cfg0.win 3).cut (grid0.coords t) v = ((cfg0.win 3).blk t).view.read (Elt Ideal) v := by
  funext y
  exact Rows.read_eq (R := 65536) (B := 65536) (W := 1024) (index_3 t) (fun _ a => ValueKit.view_emb_slice_whole_unit_val main_v2_1 _ _ _ _ a)
    (fun r => by have := r.isLt; omega) (fun r l => congrArg (fun k => v (ix2 k l)) (Fin.ext (show (r : ℕ) = 0 * 65536 + (r : ℕ) by omega))) y

/-- Every index of result 2 lies in the one block, which is written back. -/
theorem cover_3 (i : S65536x1024.Idx) : ∃ t : Fin cfg0.N, (cfg0.win 3).flush t = true ∧ i ∈ ((cfg0.win 3).blk t).view.set := by
  have h0 : (i 0 : ℕ) < 65536 := (i 0).isLt
  refine ⟨t0_0, flush0_3 _, ?_⟩
  show i ∈ ((View.whole main_v2_1).slice (win0_3.rect t0_0)).set
  rw [View.set_slice_whole, Rect.mem_set_unit]
  exact Rows.mem_rows (R := 65536) (B := 65536) (W := 1024) (index_3 t0_0) i (by omega) (by omega)

/-- Result 2 ends at `G` when the body leaves `G` of the two matrices. -/
theorem arr_3 (G : Vec Ideal S65536x1024 .fp8e4m3) (H : out0_3 (X m c) (D m c) = G) : (dats m 0 c).arrAt 3 cfg0.N = G :=
  (dats m 0 c).arrAt_eq_of_cover 3 G (fun t _ => (Value.flushed3 m c t).trans ((congrArg ((cfg0.win 3).cut (grid0.coords t))
    ((congrArg₂ out0_3 (blk_0 m c t) (blk_1 m c t)).trans H)).trans (cut_3 t G))) cover_3

/-- Result 2 ends holding the codes of `x`. -/
theorem final_3 : (dats m 0 c).arrAt 3 cfg0.N = codesX (X m c) := by
  refine arr_3 m c _ ?_
  generalize X m c = x0
  generalize D m c = x1
  unfold out0_3
  exact (View.canon_cons_unit_zero (S := S65536x1024) hz _ _ _).trans (out_3 x0 x1)

/-- Window 4's one block has the index `(0, 0)`. -/
theorem index_4 : ∀ t : Fin cfg0.N, win0_4.index t = ![0, 0] :=
  (by decide +kernel : ∀ t : Fin grid0.N, win0_4.index t = ![0, 0])

/-- The one block of result 3 is the whole array. -/
theorem cut_4 (t : Fin cfg0.N) (v : Vec Ideal S2048x1024 .f32) :
    (cfg0.win 4).cut (grid0.coords t) v = ((cfg0.win 4).blk t).view.read (Elt Ideal) v := by
  funext y
  exact Rows.read_eq (R := 2048) (B := 2048) (W := 1024) (index_4 t) (fun _ a => ValueKit.view_emb_slice_whole_unit_val main_v2_2 _ _ _ _ a)
    (fun r => by have := r.isLt; omega) (fun r l => congrArg (fun k => v (ix2 k l)) (Fin.ext (show (r : ℕ) = 0 * 2048 + (r : ℕ) by omega))) y

/-- Every index of result 3 lies in the one block, which is written back. -/
theorem cover_4 (i : S2048x1024.Idx) : ∃ t : Fin cfg0.N, (cfg0.win 4).flush t = true ∧ i ∈ ((cfg0.win 4).blk t).view.set := by
  have h0 : (i 0 : ℕ) < 2048 := (i 0).isLt
  refine ⟨t0_0, flush0_4 _, ?_⟩
  show i ∈ ((View.whole main_v2_2).slice (win0_4.rect t0_0)).set
  rw [View.set_slice_whole, Rect.mem_set_unit]
  exact Rows.mem_rows (R := 2048) (B := 2048) (W := 1024) (index_4 t0_0) i (by omega) (by omega)

/-- Result 3 ends at `G` when the body leaves `G` of the two matrices. -/
theorem arr_4 (G : Vec Ideal S2048x1024 .f32) (H : out0_4 (X m c) (D m c) = G) : (dats m 0 c).arrAt 4 cfg0.N = G :=
  (dats m 0 c).arrAt_eq_of_cover 4 G (fun t _ => (Value.flushed4 m c t).trans ((congrArg ((cfg0.win 4).cut (grid0.coords t))
    ((congrArg₂ out0_4 (blk_0 m c t) (blk_1 m c t)).trans H)).trans (cut_4 t G))) cover_4

/-- Result 3 ends holding the scales of `x`. -/
theorem final_4 : (dats m 0 c).arrAt 4 cfg0.N = scalesX (X m c) := by
  refine arr_4 m c _ ?_
  generalize X m c = x0
  generalize D m c = x1
  unfold out0_4
  exact (View.canon_cons_unit_zero (S := S2048x1024) hz _ _ _).trans (out_4 x0 x1)

/-- Window 5's one block has the index `(0, 0)`. -/
theorem index_5 : ∀ t : Fin cfg0.N, win0_5.index t = ![0, 0] :=
  (by decide +kernel : ∀ t : Fin grid0.N, win0_5.index t = ![0, 0])

/-- The one block of result 4 is the whole array. -/
theorem cut_5 (t : Fin cfg0.N) (v : Vec Ideal S65536x3840 .fp8e5m2) :
    (cfg0.win 5).cut (grid0.coords t) v = ((cfg0.win 5).blk t).view.read (Elt Ideal) v := by
  funext y
  exact Rows.read_eq (R := 65536) (B := 65536) (W := 3840) (index_5 t) (fun _ a => ValueKit.view_emb_slice_whole_unit_val main_v2_3 _ _ _ _ a)
    (fun r => by have := r.isLt; omega) (fun r l => congrArg (fun k => v (ix2 k l)) (Fin.ext (show (r : ℕ) = 0 * 65536 + (r : ℕ) by omega))) y

/-- Every index of result 4 lies in the one block, which is written back. -/
theorem cover_5 (i : S65536x3840.Idx) : ∃ t : Fin cfg0.N, (cfg0.win 5).flush t = true ∧ i ∈ ((cfg0.win 5).blk t).view.set := by
  have h0 : (i 0 : ℕ) < 65536 := (i 0).isLt
  refine ⟨t0_0, flush0_5 _, ?_⟩
  show i ∈ ((View.whole main_v2_3).slice (win0_5.rect t0_0)).set
  rw [View.set_slice_whole, Rect.mem_set_unit]
  exact Rows.mem_rows (R := 65536) (B := 65536) (W := 3840) (index_5 t0_0) i (by omega) (by omega)

/-- Result 4 ends at `G` when the body leaves `G` of the two matrices. -/
theorem arr_5 (G : Vec Ideal S65536x3840 .fp8e5m2) (H : out0_5 (X m c) (D m c) = G) : (dats m 0 c).arrAt 5 cfg0.N = G :=
  (dats m 0 c).arrAt_eq_of_cover 5 G (fun t _ => (Value.flushed5 m c t).trans ((congrArg ((cfg0.win 5).cut (grid0.coords t))
    ((congrArg₂ out0_5 (blk_0 m c t) (blk_1 m c t)).trans H)).trans (cut_5 t G))) cover_5

/-- Result 4 ends holding the codes of `dy`. -/
theorem final_5 : (dats m 0 c).arrAt 5 cfg0.N = codesD (D m c) := by
  refine arr_5 m c _ ?_
  generalize X m c = x0
  generalize D m c = x1
  unfold out0_5
  exact (View.canon_cons_unit_zero (S := S65536x3840) hz _ _ _).trans (out_5 x0 x1)

/-- Window 6's one block has the index `(0, 0)`. -/
theorem index_6 : ∀ t : Fin cfg0.N, win0_6.index t = ![0, 0] :=
  (by decide +kernel : ∀ t : Fin grid0.N, win0_6.index t = ![0, 0])

/-- The one block of result 5 is the whole array. -/
theorem cut_6 (t : Fin cfg0.N) (v : Vec Ideal S2048x3840 .f32) :
    (cfg0.win 6).cut (grid0.coords t) v = ((cfg0.win 6).blk t).view.read (Elt Ideal) v := by
  funext y
  exact Rows.read_eq (R := 2048) (B := 2048) (W := 3840) (index_6 t) (fun _ a => ValueKit.view_emb_slice_whole_unit_val main_v2_4 _ _ _ _ a)
    (fun r => by have := r.isLt; omega) (fun r l => congrArg (fun k => v (ix2 k l)) (Fin.ext (show (r : ℕ) = 0 * 2048 + (r : ℕ) by omega))) y

/-- Every index of result 5 lies in the one block, which is written back. -/
theorem cover_6 (i : S2048x3840.Idx) : ∃ t : Fin cfg0.N, (cfg0.win 6).flush t = true ∧ i ∈ ((cfg0.win 6).blk t).view.set := by
  have h0 : (i 0 : ℕ) < 2048 := (i 0).isLt
  refine ⟨t0_0, flush0_6 _, ?_⟩
  show i ∈ ((View.whole main_v2_4).slice (win0_6.rect t0_0)).set
  rw [View.set_slice_whole, Rect.mem_set_unit]
  exact Rows.mem_rows (R := 2048) (B := 2048) (W := 3840) (index_6 t0_0) i (by omega) (by omega)

/-- Result 5 ends at `G` when the body leaves `G` of the two matrices. -/
theorem arr_6 (G : Vec Ideal S2048x3840 .f32) (H : out0_6 (X m c) (D m c) = G) : (dats m 0 c).arrAt 6 cfg0.N = G :=
  (dats m 0 c).arrAt_eq_of_cover 6 G (fun t _ => (Value.flushed6 m c t).trans ((congrArg ((cfg0.win 6).cut (grid0.coords t))
    ((congrArg₂ out0_6 (blk_0 m c t) (blk_1 m c t)).trans H)).trans (cut_6 t G))) cover_6

/-- Result 5 ends holding the scales of `dy`. -/
theorem final_6 : (dats m 0 c).arrAt 6 cfg0.N = scalesD (D m c) := by
  refine arr_6 m c _ ?_
  generalize X m c = x0
  generalize D m c = x1
  unfold out0_6
  exact (View.canon_cons_unit_zero (S := S2048x3840) hz _ _ _).trans (out_6 x0 x1)

end Cert.ReferenceIdeal.Ref

end
end
-- ==== Proof.Equation.lean ====
/-
  The equation between the two quantisers: for a matrix whose elements lie within the range of the finite bfloat16 numbers,
  the kernel's scale and reciprocal scale of every group are the reference's, so the codes, the scales and the widened matrix
  are the reference's too.
-/
module

public import proofs.«01_k».proof.Proof.Whole

@[expose] public section

noncomputable section

namespace Cert.Mx

open Idealize.ShloMosaic

variable {R G W : ℕ}

/-- The kernel's reciprocal scale as a function of the group's greatest absolute value. -/
def invW (κ : BitVec 32) (a : EReal) : EReal := inverseW (a * Ideal.ofBits .f32 κ)
/-- The kernel's scale as a function of the group's greatest absolute value. -/
def scW (κ : BitVec 32) (a : EReal) : EReal := scaleW (a * Ideal.ofBits .f32 κ)

/-- The greatest finite bfloat16 number. -/
def bound : EReal := Ideal.ofBits .bf16 0x7F7F#16

/-- The greatest finite bfloat16 number is at most `2^128`. -/
theorem bound_lt : bound ≤ (((2 : ℝ) ^ (128 : ℤ) : ℝ) : EReal) := by
  unfold bound
  simp [Ideal.ofBits, Ideal.ieee]
  exact_mod_cast (by norm_num : (255 : ℝ) * 2 ^ 120 ≤ 2 ^ 128)

/-- An absolute value is not negative. -/
theorem abs_nonneg (x : EReal) : 0 ≤ max x (-x) := by
  rcases le_total 0 x with h | h
  · exact le_max_of_le_left h
  · exact le_max_of_le_right (by rw [← neg_zero]; exact EReal.neg_le_neg_iff.mpr h)

/-- A group's greatest absolute value is not negative. -/
theorem amax_nonneg (g : Fin 32 → EReal) : 0 ≤ amax g :=
  (Finset.le_fold_max _).mpr (Or.inr ⟨0, Finset.mem_univ _, abs_nonneg _⟩)

/-- A bound of all absolute values of a group bounds the greatest. -/
theorem amax_le {g : Fin 32 → EReal} {b : EReal} (h : ∀ k, max (g k) (-(g k)) ≤ b) : amax g ≤ b :=
  (Finset.fold_max_le _).mpr ⟨bot_le, fun k _ => h k⟩

/-- The two scales agree for a group of bounded elements, and so do the reciprocals. -/
theorem scales_agree {κ : BitVec 32} {k : ℝ} (hk : Ideal.ofBits .f32 κ = (k : EReal)) (h0 : 0 ≤ k) (h1 : k ≤ 1 / 8) {a : EReal}
    (ha : 0 ≤ a) (hb : a ≤ bound) : scW κ a = Whole.sc κ a ∧ invW κ a = Whole.inv κ a := by
  have hb' := hb.trans bound_lt
  lift a to ℝ using ⟨ne_top_of_le_ne_top (EReal.coe_ne_top _) hb', fun h => by rw [h] at ha; exact absurd ha (by simp)⟩
  have ha' : 0 ≤ a := by exact_mod_cast ha
  rw [EReal.coe_le_coe_iff] at hb'
  unfold scW invW Whole.sc Whole.inv
  rw [hk, ← EReal.coe_mul]
  refine scaleW_eq ?_ ?_ ?_
  · exact_mod_cast mul_nonneg ha' h0
  · rw [EReal.coe_lt_coe_iff]
    calc a * k ≤ (2 : ℝ) ^ (128 : ℤ) * (1 / 8) := mul_le_mul hb' h1 h0 (by positivity)
      _ < (2 : ℝ) ^ (126 : ℤ) := by norm_num
  · intro h
    have : a = 0 := by exact_mod_cast h
    rw [this, zero_mul]; rfl

/-- Every element of a matrix within the finite bfloat16 numbers. -/
def Bounded (v : (⟨2, ![R, W]⟩ : Shape).Idx → EReal) : Prop := ∀ i, max (v i) (-(v i)) ≤ bound

variable {κ : BitVec 32} {k : ℝ} {v : (⟨2, ![R, W]⟩ : Shape).Idx → EReal}

/-- The kernel's and the reference's scale agree at every group of a bounded matrix, and so do the reciprocals. -/
theorem agree (hk : Ideal.ofBits .f32 κ = (k : EReal)) (h0 : 0 ≤ k) (h1 : k ≤ 1 / 8) (hv : Bounded v) (h : R = G * 32)
    (g : Fin G) (l : Fin W) :
    scW κ (amax (group h v g l)) = Whole.sc κ (amax (group h v g l)) ∧ invW κ (amax (group h v g l)) = Whole.inv κ (amax (group h v g l)) :=
  scales_agree hk h0 h1 (amax_nonneg _) (amax_le fun _ => hv _)

/-- The kernel's codes are the reference's. -/
theorem codes_agree (hk : Ideal.ofBits .f32 κ = (k : EReal)) (h0 : 0 ≤ k) (h1 : k ≤ 1 / 8) (hv : Bounded v) (h : R = G * 32)
    (lo hi : BitVec 32) : codesOf (invW κ) lo hi h v = codesOf (Whole.inv κ) lo hi h v :=
  funext fun i => congrArg (clip lo hi (v i)) (agree hk h0 h1 hv h (rowGroup h (i 0)) (i 1)).2

/-- The kernel's scales are the reference's. -/
theorem scalesOf_agree (hk : Ideal.ofBits .f32 κ = (k : EReal)) (h0 : 0 ≤ k) (h1 : k ≤ 1 / 8) (hv : Bounded v) (h : R = G * 32) :
    scalesOf (scW κ) h v = scalesOf (Whole.sc κ) h v :=
  funext fun i => (agree hk h0 h1 hv h (i 0) (i 1)).1

/-- The kernel's widened matrix is the reference's. -/
theorem wide_agree (hk : Ideal.ofBits .f32 κ = (k : EReal)) (h0 : 0 ≤ k) (h1 : k ≤ 1 / 8) (hv : Bounded v) (h : R = G * 32)
    (lo hi : BitVec 32) : wideOf (invW κ) (scW κ) lo hi h v = wideOf (Whole.inv κ) (Whole.sc κ) lo hi h v :=
  funext fun i => congrArg₂ (fun a b : EReal => a * b) (congrFun (codes_agree hk h0 h1 hv h lo hi) i)
    (agree hk h0 h1 hv h (rowGroup h (i 0)) (i 1)).1

/-! ## The two formats' constants -/

/-- The constant of `x`'s format, the float32 number next to `1/448`. -/
theorem ofBits_x : Ideal.ofBits .f32 0x3B124925#32 = ((9586981 / 2 ^ 32 : ℝ) : EReal) := by
  simp [Ideal.ofBits, Ideal.ieee]
  rw [← EReal.coe_mul, EReal.coe_eq_coe_iff]
  norm_num

/-- The constant of `dy`'s format, the float32 number next to `1/57344`. -/
theorem ofBits_dy : Ideal.ofBits .f32 0x37924925#32 = ((9586981 / 2 ^ 39 : ℝ) : EReal) := by
  simp [Ideal.ofBits, Ideal.ieee]
  rw [← EReal.coe_mul, EReal.coe_eq_coe_iff]
  norm_num

end Cert.Mx

end
end
-- ==== Proof.Result.lean ====
/-
  The value claim: where the two arguments lie within the range of the finite bfloat16 numbers, the kernel's five results are
  the reference's. Both programs first lay the arguments out as matrices of 65536 rows, the same two matrices.
-/
module

public import proofs.«01_k».proof.Defs
public import proofs.«01_k».proof.Proof.Array
public import proofs.«01_k».proof.Proof.Product
public import proofs.«01_k».proof.Proof.Ref
public import proofs.«01_k».proof.Proof.Equation
public import proofs.«01_k».proof.Proof.Gen.Pre_finite
public import Idealize.ShloMosaic.Lib.ReduceAll
public import Idealize.ShloMosaic.Lib.StableHlo.Run

@[expose] public section

set_option maxRecDepth 16384

noncomputable section

namespace Cert.Result

open Idealize.ShloMosaic Idealize.ShloMosaic.TcCoe Idealize.SL.Sem

/-! ## The matrices -/

/-- The kernel's matrix of `x` is its argument reshaped. -/
theorem kernel_X (m : (ℓ : Loc KernelIdeal.nD KernelIdeal.τ KernelIdeal.sig) → Buf (Elt Ideal) ℓ) (c : Dev KernelIdeal.nD) :
    KernelIdeal.Points.X m c = shapeCast KernelIdeal.S65536x1024
      (m ((c.tc : Thread KernelIdeal.nD KernelIdeal.τ).loc KernelIdeal.main_arg0) : FVec Ideal KernelIdeal.S8x8192x1024 .bf16)
      KernelIdeal.Facts₀.shapeCasts_S8x8192x1024_S65536x1024 := by
  show StableHlo.after KernelIdeal.Gen.hostOps0 (fun b => m (c, b)) (Proc.devRef .tc KernelIdeal.main_v0) = _
  unfold KernelIdeal.Gen.hostOps0
  after_results
  rfl

/-- The kernel's matrix of `dy` is its argument reshaped. -/
theorem kernel_D (m : (ℓ : Loc KernelIdeal.nD KernelIdeal.τ KernelIdeal.sig) → Buf (Elt Ideal) ℓ) (c : Dev KernelIdeal.nD) :
    KernelIdeal.Points.D m c = shapeCast KernelIdeal.S65536x3840
      (m ((c.tc : Thread KernelIdeal.nD KernelIdeal.τ).loc KernelIdeal.main_arg1) : FVec Ideal KernelIdeal.S8x8192x3840 .bf16)
      KernelIdeal.Facts₀.shapeCasts_S8x8192x3840_S65536x3840 := by
  show StableHlo.after KernelIdeal.Gen.hostOps0 (fun b => m (c, b)) (Proc.devRef .tc KernelIdeal.main_v1) = _
  unfold KernelIdeal.Gen.hostOps0
  after_results
  rfl

/-- The reference's matrix of `x` is its argument reshaped. -/
theorem reference_X (m : (ℓ : Loc ReferenceIdeal.nD ReferenceIdeal.τ ReferenceIdeal.sig) → Buf (Elt Ideal) ℓ) (c : Dev ReferenceIdeal.nD) :
    ReferenceIdeal.Ref.X m c = shapeCast ReferenceIdeal.S65536x1024
      (m ((c.tc : Thread ReferenceIdeal.nD ReferenceIdeal.τ).loc ReferenceIdeal.main_arg0) : FVec Ideal ReferenceIdeal.S8x8192x1024 .bf16)
      ReferenceIdeal.Facts₀.shapeCasts_S8x8192x1024_S65536x1024 := by
  show StableHlo.after ReferenceIdeal.Gen.hostOps0 (fun b => m (c, b)) (Proc.devRef .tc ReferenceIdeal.main_v0) = _
  unfold ReferenceIdeal.Gen.hostOps0
  after_results
  rfl

/-- The reference's matrix of `dy` is its argument reshaped. -/
theorem reference_D (m : (ℓ : Loc ReferenceIdeal.nD ReferenceIdeal.τ ReferenceIdeal.sig) → Buf (Elt Ideal) ℓ) (c : Dev ReferenceIdeal.nD) :
    ReferenceIdeal.Ref.D m c = shapeCast ReferenceIdeal.S65536x3840
      (m ((c.tc : Thread ReferenceIdeal.nD ReferenceIdeal.τ).loc ReferenceIdeal.main_arg1) : FVec Ideal ReferenceIdeal.S8x8192x3840 .bf16)
      ReferenceIdeal.Facts₀.shapeCasts_S8x8192x3840_S65536x3840 := by
  show StableHlo.after ReferenceIdeal.Gen.hostOps0 (fun b => m (c, b)) (Proc.devRef .tc ReferenceIdeal.main_v1) = _
  unfold ReferenceIdeal.Gen.hostOps0
  after_results
  rfl

/-! ## The precondition -/

/-- A true `≤` comparison says its operands are so ordered. -/
theorem le_of_cmpf (a b : EReal) (h : FloatOps.cmpf (F := Ideal) (φ := .bf16) .ole a b = 1#1) : a ≤ b := by
  by_contra hn
  simp [FloatOps.cmpf, Ideal.cmp, hn] at h

/-- The precondition bounds every element of both arguments. -/
theorem bounded_of_fn (a : FVec Ideal Pre_finite.S8x8192x1024 .bf16) (b : FVec Ideal Pre_finite.S8x8192x3840 .bf16)
    (h : Pre_finite.fn (F := Ideal) a b = fun _ => 1#1) :
    (∀ i, max (a i : EReal) (-(a i : EReal)) ≤ Mx.bound) ∧ ∀ i, max (b i : EReal) (-(b i : EReal)) ≤ Mx.bound := by
  have hs : Subsingleton Pre_finite.S_.Idx := ⟨fun x y => funext fun d => d.elim0⟩
  have e := congrFun h (fun d => d.elim0)
  obtain ⟨ea, eb⟩ := IntOp.andi_eq_one.1 e
  exact ⟨fun i => le_of_cmpf _ _ (Host.reduce_andi_all _ _ _ _ _ ea i), fun i => le_of_cmpf _ _ (Host.reduce_andi_all _ _ _ _ _ eb i)⟩

/-! ## The results -/

open KernelIdeal.Block in
/-- Under the precondition each of the kernel's result arrays ends at the reference's function of the same matrix. -/
theorem kernel_final (m : (ℓ : Loc KernelIdeal.nD KernelIdeal.τ KernelIdeal.sig) → Buf (Elt Ideal) ℓ) (c : Dev KernelIdeal.nD)
    (hX : Mx.Bounded (R := 65536) (W := 1024) (KernelIdeal.Points.X m c)) (hD : Mx.Bounded (R := 65536) (W := 3840) (KernelIdeal.Points.D m c)) :
    (KernelIdeal.Gen.dats m 0 c).arrAt 2 KernelIdeal.cfg0.N
        = ReferenceIdeal.Ref.prod (ReferenceIdeal.Ref.wideX (KernelIdeal.Points.X m c)) (ReferenceIdeal.Ref.wideD (KernelIdeal.Points.D m c))
    ∧ (KernelIdeal.Gen.dats m 0 c).arrAt 3 KernelIdeal.cfg0.N = ReferenceIdeal.Ref.codesX (KernelIdeal.Points.X m c)
    ∧ (KernelIdeal.Gen.dats m 0 c).arrAt 4 KernelIdeal.cfg0.N = ReferenceIdeal.Ref.scalesX (KernelIdeal.Points.X m c)
    ∧ (KernelIdeal.Gen.dats m 0 c).arrAt 5 KernelIdeal.cfg0.N = ReferenceIdeal.Ref.codesD (KernelIdeal.Points.D m c)
    ∧ (KernelIdeal.Gen.dats m 0 c).arrAt 6 KernelIdeal.cfg0.N = ReferenceIdeal.Ref.scalesD (KernelIdeal.Points.D m c) := by
  have x0 : (0 : ℝ) ≤ 9586981 / 2 ^ 32 := by norm_num
  have x1 : (9586981 / 2 ^ 32 : ℝ) ≤ 1 / 8 := by norm_num
  have d0 : (0 : ℝ) ≤ 9586981 / 2 ^ 39 := by norm_num
  have d1 : (9586981 / 2 ^ 39 : ℝ) ≤ 1 / 8 := by norm_num
  refine ⟨?_, ?_, ?_, ?_, ?_⟩
  · refine (KernelIdeal.Product.final_2 m c).trans ?_
    exact congrArg₂ KernelIdeal.Product.prod (Mx.wide_agree (R := 65536) (G := 2048) (W := 1024) Mx.ofBits_x x0 x1 hX rfl loX hiX)
      (Mx.wide_agree (R := 65536) (G := 2048) (W := 3840) Mx.ofBits_dy d0 d1 hD rfl loD hiD)
  · exact (KernelIdeal.Array.final_3 m c).trans (Mx.codes_agree (R := 65536) (G := 2048) (W := 1024) Mx.ofBits_x x0 x1 hX rfl loX hiX)
  · exact (KernelIdeal.Array.final_4 m c).trans (Mx.scalesOf_agree (R := 65536) (G := 2048) (W := 1024) Mx.ofBits_x x0 x1 hX rfl)
  · exact (KernelIdeal.Array.final_5 m c).trans (Mx.codes_agree (R := 65536) (G := 2048) (W := 3840) Mx.ofBits_dy d0 d1 hD rfl loD hiD)
  · exact (KernelIdeal.Array.final_6 m c).trans (Mx.scalesOf_agree (R := 65536) (G := 2048) (W := 3840) Mx.ofBits_dy d0 d1 hD rfl)

/-- The value claim: from argument arrays that agree and meet the precondition, the kernel and the reference end with the
same five results, and both leave their arguments as they were. -/
theorem algebraic : Cert.algebraic_KernelIdeal_ReferenceIdeal_pre_finite := by
  intro m g m' g' hp hm
  have eX : ∀ c, ReferenceIdeal.Ref.X m' c = KernelIdeal.Points.X m c := fun c => by
    rw [reference_X, kernel_X]
    exact congrArg (fun a : FVec Ideal KernelIdeal.S8x8192x1024 .bf16 => shapeCast KernelIdeal.S65536x1024 a KernelIdeal.Facts₀.shapeCasts_S8x8192x1024_S65536x1024) (hm c).1
  have eD : ∀ c, ReferenceIdeal.Ref.D m' c = KernelIdeal.Points.D m c := fun c => by
    rw [reference_D, kernel_D]
    exact congrArg (fun a : FVec Ideal KernelIdeal.S8x8192x3840 .bf16 => shapeCast KernelIdeal.S65536x3840 a KernelIdeal.Facts₀.shapeCasts_S8x8192x3840_S65536x3840) (hm c).2
  have K : ∀ c, _ := fun c => kernel_final m c
    (by rw [kernel_X]; exact fun i => (bounded_of_fn _ _ (hp c)).1 _)
    (by rw [kernel_D]; exact fun i => (bounded_of_fn _ _ (hp c)).2 _)
  refine ⟨fun c => ReferenceIdeal.Ref.prod (ReferenceIdeal.Ref.wideX (KernelIdeal.Points.X m c)) (ReferenceIdeal.Ref.wideD (KernelIdeal.Points.D m c)),
    fun c => ReferenceIdeal.Ref.codesX (KernelIdeal.Points.X m c), fun c => ReferenceIdeal.Ref.scalesX (KernelIdeal.Points.X m c),
    fun c => ReferenceIdeal.Ref.codesD (KernelIdeal.Points.D m c), fun c => ReferenceIdeal.Ref.scalesD (KernelIdeal.Points.D m c), ?_, ?_⟩
  · refine (θ_run KernelIdeal.defs _ _).mono (fun _ h c => ?_) (KernelIdeal.Value.run_blocks m g)
    obtain ⟨h2, h3, h4, h5, h6, h0, h1⟩ := h c
    obtain ⟨k2, k3, k4, k5, k6⟩ := K c
    exact ⟨h2.trans k2, h3.trans k3, h4.trans k4, h5.trans k5, h6.trans k6, h0, h1⟩
  · refine (θ_run ReferenceIdeal.defs _ _).mono (fun _ h c => ?_) (ReferenceIdeal.Value.run_blocks m' g')
    obtain ⟨h2, h3, h4, h5, h6, h0, h1⟩ := h c
    refine ⟨h2.trans ((ReferenceIdeal.Ref.final_2 m' c).trans ?_), h3.trans ((ReferenceIdeal.Ref.final_3 m' c).trans ?_),
      h4.trans ((ReferenceIdeal.Ref.final_4 m' c).trans ?_), h5.trans ((ReferenceIdeal.Ref.final_5 m' c).trans ?_),
      h6.trans ((ReferenceIdeal.Ref.final_6 m' c).trans ?_), h0, h1⟩
    · exact congrArg₂ (fun a b => ReferenceIdeal.Ref.prod (ReferenceIdeal.Ref.wideX a) (ReferenceIdeal.Ref.wideD b)) (eX c) (eD c)
    · exact congrArg ReferenceIdeal.Ref.codesX (eX c)
    · exact congrArg ReferenceIdeal.Ref.scalesX (eX c)
    · exact congrArg ReferenceIdeal.Ref.codesD (eD c)
    · exact congrArg ReferenceIdeal.Ref.scalesD (eD c)

end Cert.Result

end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Gen.KernelIdeal.Value
public import proofs.«01_k».proof.Proof.Gen.ReferenceIdeal.Value
public import proofs.«01_k».proof.Proof.Result
public import Idealize.ShloMosaic.Adequacy
public import Idealize.ShloMosaic.Init

@[expose] public section

noncomputable section

namespace Cert.Proof

open Idealize.ShloMosaic Idealize.SL.Sem Cert.Kernel

/-- The whole claim: the five frames, the preservation and the value claim. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, Cert.Result.algebraic⟩

end Cert.Proof

end
